-- ==== Defs.lean ====
def Pre_Kernel [hPre_starts_inside : Cert.Pre_starts_inside.Facts] (m : (ℓ : Loc Cert.Kernel.nD Cert.Kernel.τ Cert.Kernel.sig) → Buf (Elt Bits) ℓ) : Prop :=
  ∀ c : Dev Cert.Kernel.nD,
    (Cert.Pre_starts_inside.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_starts_inside : Cert.Pre_starts_inside.Facts] (m : (ℓ : Loc Cert.KernelIdeal.nD Cert.KernelIdeal.τ Cert.KernelIdeal.sig) → Buf (Elt Ideal) ℓ) : Prop :=
  ∀ c : Dev Cert.KernelIdeal.nD,
    (Cert.Pre_starts_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_starts_inside [hPre_starts_inside : Cert.Pre_starts_inside.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_starts_inside.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_starts_inside : Cert.Pre_starts_inside.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_starts_inside : Cert.Pre_starts_inside.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_starts_inside [hReferenceIdeal : Cert.ReferenceIdeal.Facts] [hPre_starts_inside : Cert.Pre_starts_inside.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_starts_inside m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_starts_inside : Cert.Pre_starts_inside.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_8) = v0 c
          ∧ r.2.mem ((c.tc : Thread Cert.ReferenceIdeal.nD Cert.ReferenceIdeal.τ).loc Cert.ReferenceIdeal.main_v6_9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_starts_inside : Cert.Pre_starts_inside.Facts),
    quiescent_Kernel (hKernel := hKernel) (hPre_starts_inside := hPre_starts_inside)
    ∧ quiescent_KernelIdeal (hKernelIdeal := hKernelIdeal) (hPre_starts_inside := hPre_starts_inside)
    ∧ quiescent_ReferenceIdeal (hReferenceIdeal := hReferenceIdeal)
    ∧ quiescent_ReferenceIdeal_pre_starts_inside (hReferenceIdeal := hReferenceIdeal) (hPre_starts_inside := hPre_starts_inside)
    ∧ preserves_Kernel_KernelIdeal
    ∧ algebraic_KernelIdeal_ReferenceIdeal (hKernelIdeal := hKernelIdeal) (hReferenceIdeal := hReferenceIdeal) (hPre_starts_inside := hPre_starts_inside)
-- ==== Pre_starts_inside.lean ====
abbrev S2048x4096 : Shape := ⟨2, ![2048, 4096]⟩
abbrev S7 : Shape := ⟨1, ![7]⟩
abbrev S8 : Shape := ⟨1, ![8]⟩
abbrev S7x4096x4096 : Shape := ⟨3, ![7, 4096, 4096]⟩
abbrev S_ : Shape := ⟨0, ![]⟩

class Facts : Prop where
  slices_S8_S7_0 : S8.Slices ![0] S7
  bcast_S_S7 : S_.BroadcastsInDim S7 (![] : Fin 0 → Fin S7.rank)
  reducesTo_S7_S_d0 : S7.ReducesTo [0] S_
  h_S_ : 0 < S_.numel

variable [Facts]

def fn {F : FTy → Type} [FloatOps F] (main_arg0 : FVec F S2048x4096 .fp8e4m3) (main_arg1 : FVec F S7 .f32) (main_arg2 : IVec S8 32) (main_arg3 : FVec F S7x4096x4096 .f32) (main_arg4 : IVec S7 32) : IVec S_ 1 :=
  let main_v0 : IVec S7 32 := (extractStridedSlice S7 ![0] · slices_S8_S7_0) main_arg2
  let main_c : IVec S_ 32 := constantI S_ 32 0#32
  let main_v1 : IVec S7 32 := broadcastInDim S7 ![] bcast_S_S7 main_c
  let main_v2 : IVec S7 1 := cmpi .sge main_v0 main_v1
  let main_c_0 : IVec S_ 1 := constantI S_ 1 1#1
  let main_v3 : IVec S_ 1 := (fun x v => Host.reduce IntOp.andi x v reducesTo_S7_S_d0 h_S_) main_v2 main_c_0
  main_v3
-- ==== Kernel.lean ====
abbrev S2048x4096 : Shape := ⟨2, ![2048, 4096]⟩
abbrev S7 : Shape := ⟨1, ![7]⟩
abbrev S8 : Shape := ⟨1, ![8]⟩
abbrev S7x4096x4096 : Shape := ⟨3, ![7, 4096, 4096]⟩
abbrev S1x256x4096 : Shape := ⟨3, ![1, 256, 4096]⟩
abbrev S768x4096 : Shape := ⟨2, ![768, 4096]⟩
abbrev S1 : Shape := ⟨1, ![1]⟩
abbrev S768x128 : Shape := ⟨2, ![768, 128]⟩
abbrev S1x1 : Shape := ⟨2, ![1, 1]⟩
abbrev S768x256 : Shape := ⟨2, ![768, 256]⟩
abbrev S256x256 : Shape := ⟨2, ![256, 256]⟩
abbrev S1x256x256 : Shape := ⟨3, ![1, 256, 256]⟩

abbrev nBuf : Space → Nat
  | .hbm => 7
  | .vmem => 6
  | .smem => 4
  | _ => 0

abbrev bufTy : (tb : Table) → Fin (tcTables nBuf tb) → BufTy
  | .hbm, ⟨0, _⟩ => ⟨S2048x4096, .fp8e4m3⟩
  | .hbm, ⟨1, _⟩ => ⟨S7, .f32⟩
  | .hbm, ⟨2, _⟩ => ⟨S8, .i32⟩
  | .hbm, ⟨3, _⟩ => ⟨S7x4096x4096, .f32⟩
  | .hbm, ⟨4, _⟩ => ⟨S7, .i32⟩
  | .hbm, ⟨5, _⟩ => ⟨S7x4096x4096, .f32⟩
  | .hbm, ⟨6, _⟩ => ⟨S7, .i32⟩
  | .local _ .vmem, ⟨0, _⟩ => ⟨S2048x4096, .fp8e4m3⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x256x4096, .f32⟩
  | .local _ .vmem, ⟨5, _⟩ => ⟨S768x4096, .fp8e4m3⟩
  | .local _ .smem, ⟨0, _⟩ => ⟨S8, .i32⟩
  | .local _ .smem, ⟨1, _⟩ => ⟨S7, .i32⟩
  | .local _ .smem, ⟨2, _⟩ => ⟨S7, .f32⟩
  | .local _ .smem, ⟨3, _⟩ => ⟨S7, .i32⟩
  | _, _ => ⟨S2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg3_0 : Ref sig .tc := ⟨.vmem, 0, rfl⟩
abbrev cc0_stg4_0 : Ref sig .tc := ⟨.vmem, 1, rfl⟩
abbrev cc0_stg4_1 : Ref sig .tc := ⟨.vmem, 2, rfl⟩
abbrev cc0_stg5_0 : Ref sig .tc := ⟨.vmem, 3, rfl⟩
abbrev cc0_stg5_1 : Ref sig .tc := ⟨.vmem, 4, rfl⟩
abbrev cc0_scratch0 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg6_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨2, ![7, 16], ![false, false]⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.addi arg0 c1_i32
  let v3 : Index := Scalar.indexCast v2
  ![v3.toNat]
def k0_off3 (i : grid0.Coords) : Fin 1 → Nat :=
  let arg0 : BitVec 32 := BitVec.ofNat 32 (i 0).val
  let v5 : Index := Scalar.indexCast arg0
  ![v5.toNat]
def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_0 : BitVec 32 := 0#32
  let v11 : BitVec 1 := Scalar.cmpi .ne v10 c0_i32_0
  v11

def k0_off4 (i : grid0.Coords) : Fin 1 → Nat :=
  let arg0 : BitVec 32 := BitVec.ofNat 32 (i 0).val
  let v252 : Index := Scalar.indexCast arg0
  ![v252.toNat]
def k0_mult1 (v1 : BitVec 32) : BitVec 32 :=
  let c0_i32_130 : BitVec 32 := 0#32
  let v255 : BitVec 1 := Scalar.cmpi .sgt v1 c0_i32_130
  let v256 : BitVec 32 := Scalar.extui v255
  let c0_i32_131 : BitVec 32 := 0#32
  let v257 : BitVec 1 := Scalar.cmpi .slt v1 c0_i32_131
  let v258 : BitVec 32 := Scalar.extui v257
  let v259 : BitVec 32 := Scalar.subi v256 v258
  let c32_i32 : BitVec 32 := 32#32
  let c0_i32_132 : BitVec 32 := 0#32
  let v260 : BitVec 1 := Scalar.cmpi .sgt c32_i32 c0_i32_132
  let v261 : BitVec 32 := Scalar.extui v260
  let c0_i32_133 : BitVec 32 := 0#32
  let v262 : BitVec 1 := Scalar.cmpi .slt c32_i32 c0_i32_133
  let v263 : BitVec 32 := Scalar.extui v262
  let v264 : BitVec 32 := Scalar.subi v261 v263
  let v265 : BitVec 1 := Scalar.cmpi .ne v259 v264
  let v266 : BitVec 32 := Scalar.remsi v1 c32_i32
  let c0_i32_134 : BitVec 32 := 0#32
  let v267 : BitVec 1 := Scalar.cmpi .ne v266 c0_i32_134
  let v268 : BitVec 1 := Scalar.andi v265 v267
  let v254 : BitVec 32 := Scalar.divsi v1 c32_i32
  let c1_i32_135 : BitVec 32 := 1#32
  let v269 : BitVec 32 := Scalar.subi v254 c1_i32_135
  let v270 : BitVec 32 := Scalar.select v268 v269 v254
  let c32_i32_136 : BitVec 32 := 32#32
  let v271 : BitVec 32 := Scalar.muli v270 c32_i32_136
  let c1280_i32 : BitVec 32 := 1280#32
  let v272 : BitVec 32 := Scalar.minsi v271 c1280_i32
  v272

def k0_off5 (v1 : BitVec 32) : Fin 2 → Nat :=
  let c0_i32_130 : BitVec 32 := 0#32
  let v255 : BitVec 1 := Scalar.cmpi .sgt v1 c0_i32_130
  let v256 : BitVec 32 := Scalar.extui v255
  let c0_i32_131 : BitVec 32 := 0#32
  let v257 : BitVec 1 := Scalar.cmpi .slt v1 c0_i32_131
  let v258 : BitVec 32 := Scalar.extui v257
  let v259 : BitVec 32 := Scalar.subi v256 v258
  let c32_i32 : BitVec 32 := 32#32
  let c0_i32_132 : BitVec 32 := 0#32
  let v260 : BitVec 1 := Scalar.cmpi .sgt c32_i32 c0_i32_132
  let v261 : BitVec 32 := Scalar.extui v260
  let c0_i32_133 : BitVec 32 := 0#32
  let v262 : BitVec 1 := Scalar.cmpi .slt c32_i32 c0_i32_133
  let v263 : BitVec 32 := Scalar.extui v262
  let v264 : BitVec 32 := Scalar.subi v261 v263
  let v265 : BitVec 1 := Scalar.cmpi .ne v259 v264
  let v266 : BitVec 32 := Scalar.remsi v1 c32_i32
  let c0_i32_134 : BitVec 32 := 0#32
  let v267 : BitVec 1 := Scalar.cmpi .ne v266 c0_i32_134
  let v268 : BitVec 1 := Scalar.andi v265 v267
  let v254 : BitVec 32 := Scalar.divsi v1 c32_i32
  let c1_i32_135 : BitVec 32 := 1#32
  let v269 : BitVec 32 := Scalar.subi v254 c1_i32_135
  let v270 : BitVec 32 := Scalar.select v268 v269 v254
  let c32_i32_136 : BitVec 32 := 32#32
  let v271 : BitVec 32 := Scalar.muli v270 c32_i32_136
  let c1280_i32 : BitVec 32 := 1280#32
  let v272 : BitVec 32 := Scalar.minsi v271 c1280_i32
  let v273 : BitVec 32 := v272
  let v277 : Index := Scalar.indexCast v273
  let c0_137 : Index := 0#32
  ![v277.toNat, 0]

def k0_chk1 (i : grid0.Coords) (v1 : BitVec 32) : Prop :=
  (∀ (k0_h1 : k0_cond1 i = 1#1), 32 ∣ (k0_mult1 v1).toNat) ∧
  (∀ (k0_h1 : k0_cond1 i = 1#1), ∀ a, (k0_off5 v1) a + S768x4096.size a ≤ S2048x4096.size a)
theorem k0_mult1_dvd : ∀ (i : grid0.Coords) (v1 : BitVec 32) (k0_hw1 : k0_chk1 i v1), ∀ (k0_h1 : k0_cond1 i = 1#1), 32 ∣ (k0_mult1 v1).toNat := fun i v1 k0_hw1 k0_h1 => k0_hw1.1 k0_h1
theorem k0_off5_inb : ∀ (i : grid0.Coords) (v1 : BitVec 32) (k0_hw1 : k0_chk1 i v1), ∀ (k0_h1 : k0_cond1 i = 1#1), ∀ a, (k0_off5 v1) a + S768x4096.size a ≤ S2048x4096.size a := fun i v1 k0_hw1 k0_h1 => k0_hw1.2 k0_h1

def k0_off6 (i : grid0.Coords) : Fin 1 → Nat :=
  let arg0 : BitVec 32 := BitVec.ofNat 32 (i 0).val
  let v14 : Index := Scalar.indexCast arg0
  ![v14.toNat]
def k0_mult2 (i : grid0.Coords) : BitVec 32 :=
  let arg1 : BitVec 32 := BitVec.ofNat 32 (i 1).val
  let c256_i32 : BitVec 32 := 256#32
  let v24 : BitVec 32 := Scalar.muli arg1 c256_i32
  v24
def k0_off7 (i : grid0.Coords) : Fin 2 → Nat :=
  let c0 : Index := 0#32
  let arg1 : BitVec 32 := BitVec.ofNat 32 (i 1).val
  let c256_i32 : BitVec 32 := 256#32
  let v24 : BitVec 32 := Scalar.muli arg1 c256_i32
  let v25 : BitVec 32 := v24
  let v26 : Index := Scalar.indexCast v25
  ![0, v26.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S7 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .smem S7 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S2048x4096 : Shape := ⟨2, ![2048, 4096]⟩
abbrev S7 : Shape := ⟨1, ![7]⟩
abbrev S8 : Shape := ⟨1, ![8]⟩
abbrev S7x4096x4096 : Shape := ⟨3, ![7, 4096, 4096]⟩
abbrev S585 : Shape := ⟨1, ![585]⟩
abbrev S_ : Shape := ⟨0, ![]⟩
abbrev S1x4096x4096 : Shape := ⟨3, ![1, 4096, 4096]⟩
abbrev S4096x4096 : Shape := ⟨2, ![4096, 4096]⟩
abbrev S1 : Shape := ⟨1, ![1]⟩
abbrev S585x4096 : Shape := ⟨2, ![585, 4096]⟩
abbrev S585x1 : Shape := ⟨2, ![585, 1]⟩

abbrev nBuf : Space → Nat
  | .hbm => 111
  | .vmem => 2
  | .smem => 0
  | _ => 0

abbrev bufTy : (tb : Table) → Fin (tcTables nBuf tb) → BufTy
  | .hbm, ⟨0, _⟩ => ⟨S2048x4096, .fp8e4m3⟩
  | .hbm, ⟨1, _⟩ => ⟨S7, .f32⟩
  | .hbm, ⟨2, _⟩ => ⟨S8, .i32⟩
  | .hbm, ⟨3, _⟩ => ⟨S7x4096x4096, .f32⟩
  | .hbm, ⟨4, _⟩ => ⟨S7, .i32⟩
  | .hbm, ⟨5, _⟩ => ⟨S585, .i32⟩
  | .hbm, ⟨6, _⟩ => ⟨S2048x4096, .f32⟩
  | .hbm, ⟨7, _⟩ => ⟨S7, .i32⟩
  | .hbm, ⟨8, _⟩ => ⟨S7, .i32⟩
  | .hbm, ⟨9, _⟩ => ⟨S_, .f32⟩
  | .hbm, ⟨10, _⟩ => ⟨S7x4096x4096, .f32⟩
  | .hbm, ⟨11, _⟩ => ⟨S_, .i32⟩
  | .hbm, ⟨12, _⟩ => ⟨S7, .i32⟩
  | .hbm, ⟨13, _⟩ => ⟨S_, .i32⟩
  | .hbm, ⟨14, _⟩ => ⟨S7x4096x4096, .f32⟩
  | .hbm, ⟨15, _⟩ => ⟨S7, .i32⟩
  | .hbm, ⟨16, _⟩ => ⟨S7, .i32⟩
  | .hbm, ⟨17, _⟩ => ⟨S7, .i32⟩
  | .hbm, ⟨18, _⟩ => ⟨S7, .f32⟩
  | .hbm, ⟨19, _⟩ => ⟨S2048x4096, .f32⟩
  | .hbm, ⟨20, _⟩ => ⟨S585, .i32⟩
  | .hbm, ⟨21, _⟩ => ⟨S_, .i32⟩
  | .hbm, ⟨22, _⟩ => ⟨S7x4096x4096, .f32⟩
  | .hbm, ⟨23, _⟩ => ⟨S7, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S1x4096x4096, .f32⟩
  | .hbm, ⟨29, _⟩ => ⟨S4096x4096, .f32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .f32⟩
  | .hbm, ⟨37, _⟩ => ⟨S_, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S585x4096, .f32⟩
  | .hbm, ⟨54, _⟩ => ⟨S585, .i32⟩
  | .hbm, ⟨55, _⟩ => ⟨S585, .i32⟩
  | .hbm, ⟨56, _⟩ => ⟨S585, .i32⟩
  | .hbm, ⟨57, _⟩ => ⟨S585, .i1⟩
  | .hbm, ⟨58, _⟩ => ⟨S585, .i32⟩
  | .hbm, ⟨59, _⟩ => ⟨S585, .i1⟩
  | .hbm, ⟨60, _⟩ => ⟨S585, .i1⟩
  | .hbm, ⟨61, _⟩ => ⟨S585x1, .i1⟩
  | .hbm, ⟨62, _⟩ => ⟨S_, .f32⟩
  | .hbm, ⟨63, _⟩ => ⟨S_, .f32⟩
  | .hbm, ⟨64, _⟩ => ⟨S585x4096, .i1⟩
  | .hbm, ⟨65, _⟩ => ⟨S585x4096, .f32⟩
  | .hbm, ⟨66, _⟩ => ⟨S585x4096, .f32⟩
  | .hbm, ⟨67, _⟩ => ⟨S4096x4096, .f32⟩
  | .hbm, ⟨68, _⟩ => ⟨S_, .f32⟩
  | .hbm, ⟨69, _⟩ => ⟨S4096x4096, .f32⟩
  | .hbm, ⟨70, _⟩ => ⟨S4096x4096, .f32⟩
  | .hbm, ⟨71, _⟩ => ⟨S4096x4096, .i32⟩
  | .hbm, ⟨72, _⟩ => ⟨S_, .i32⟩
  | .hbm, ⟨73, _⟩ => ⟨S4096x4096, .i32⟩
  | .hbm, ⟨74, _⟩ => ⟨S4096x4096, .i32⟩
  | .hbm, ⟨75, _⟩ => ⟨S4096x4096, .i32⟩
  | .hbm, ⟨76, _⟩ => ⟨S4096x4096, .i1⟩
  | .hbm, ⟨77, _⟩ => ⟨S_, .f32⟩
  | .hbm, ⟨78, _⟩ => ⟨S4096x4096, .f32⟩
  | .hbm, ⟨79, _⟩ => ⟨S4096x4096, .f32⟩
  | .hbm, ⟨80, _⟩ => ⟨S4096x4096, .i32⟩
  | .hbm, ⟨81, _⟩ => ⟨S_, .i32⟩
  | .hbm, ⟨82, _⟩ => ⟨S4096x4096, .i32⟩
  | .hbm, ⟨83, _⟩ => ⟨S4096x4096, .i32⟩
  | .hbm, ⟨84, _⟩ => ⟨S4096x4096, .i32⟩
  | .hbm, ⟨85, _⟩ => ⟨S4096x4096, .i1⟩
  | .hbm, ⟨86, _⟩ => ⟨S_, .f32⟩
  | .hbm, ⟨87, _⟩ => ⟨S4096x4096, .f32⟩
  | .hbm, ⟨88, _⟩ => ⟨S4096x4096, .f32⟩
  | .hbm, ⟨89, _⟩ => ⟨S4096x4096, .f32⟩
  | .hbm, ⟨90, _⟩ => ⟨S4096x4096, .f32⟩
  | .hbm, ⟨91, _⟩ => ⟨S_, .i32⟩
  | .hbm, ⟨92, _⟩ => ⟨S_, .i32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S4096x4096, .f32⟩
  | .hbm, ⟨97, _⟩ => ⟨S4096x4096, .f32⟩
  | .hbm, ⟨98, _⟩ => ⟨S_, .f32⟩
  | .hbm, ⟨99, _⟩ => ⟨S_, .f32⟩
  | .hbm, ⟨100, _⟩ => ⟨S4096x4096, .f32⟩
  | .hbm, ⟨101, _⟩ => ⟨S4096x4096, .f32⟩
  | .hbm, ⟨102, _⟩ => ⟨S4096x4096, .f32⟩
  | .hbm, ⟨103, _⟩ => ⟨S1x4096x4096, .f32⟩
  | .hbm, ⟨104, _⟩ => ⟨S_, .i32⟩
  | .hbm, ⟨105, _⟩ => ⟨S_, .i32⟩
  | .hbm, ⟨106, _⟩ => ⟨S7x4096x4096, .f32⟩
  | .hbm, ⟨107, _⟩ => ⟨S1, .i32⟩
  | .hbm, ⟨108, _⟩ => ⟨S7, .i32⟩
  | .hbm, ⟨109, _⟩ => ⟨S_, .i32⟩
  | .hbm, ⟨110, _⟩ => ⟨S_, .i32⟩
  | .local _ .vmem, ⟨0, _⟩ => ⟨S2048x4096, .fp8e4m3⟩
  | .local _ .vmem, ⟨1, _⟩ => ⟨S2048x4096, .f32⟩
  | _, _ => ⟨S2048x4096, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_c_0 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev main_v6_8 : Ref sig .tc := ⟨.hbm, 22, rfl⟩
abbrev main_v6_9 : Ref sig .tc := ⟨.hbm, 23, rfl⟩
abbrev main_while0c_c_10 : Ref sig .tc := ⟨.hbm, 24, rfl⟩
abbrev main_while0c_v7 : Ref sig .tc := ⟨.hbm, 25, rfl⟩
abbrev main_while0b_call0_c : Ref sig .tc := ⟨.hbm, 26, rfl⟩
abbrev main_while0b_call0_c_0 : Ref sig .tc := ⟨.hbm, 27, rfl⟩
abbrev main_while0b_call0_v0 : Ref sig .tc := ⟨.hbm, 28, rfl⟩
abbrev main_while0b_v7 : Ref sig .tc := ⟨.hbm, 29, rfl⟩
abbrev main_while0b_call1_v0 : Ref sig .tc := ⟨.hbm, 30, rfl⟩
abbrev main_while0b_v8 : Ref sig .tc := ⟨.hbm, 31, rfl⟩
abbrev main_while0b_call2_v0 : Ref sig .tc := ⟨.hbm, 32, rfl⟩
abbrev main_while0b_v9 : Ref sig .tc := ⟨.hbm, 33, rfl⟩
abbrev main_while0b_call3_v0 : Ref sig .tc := ⟨.hbm, 34, rfl⟩
abbrev main_while0b_v10 : Ref sig .tc := ⟨.hbm, 35, rfl⟩
abbrev main_while0b_call4_v0 : Ref sig .tc := ⟨.hbm, 36, rfl⟩
abbrev main_while0b_v11 : Ref sig .tc := ⟨.hbm, 37, rfl⟩
abbrev main_while0b_c_10 : Ref sig .tc := ⟨.hbm, 38, rfl⟩
abbrev main_while0b_v12 : Ref sig .tc := ⟨.hbm, 39, rfl⟩
abbrev main_while0b_c_11 : Ref sig .tc := ⟨.hbm, 40, rfl⟩
abbrev main_while0b_v13 : Ref sig .tc := ⟨.hbm, 41, rfl⟩
abbrev main_while0b_c_12 : Ref sig .tc := ⟨.hbm, 42, rfl⟩
abbrev main_while0b_v14 : Ref sig .tc := ⟨.hbm, 43, rfl⟩
abbrev main_while0b_v15 : Ref sig .tc := ⟨.hbm, 44, rfl⟩
abbrev main_while0b_c_13 : Ref sig .tc := ⟨.hbm, 45, rfl⟩
abbrev main_while0b_c_14 : Ref sig .tc := ⟨.hbm, 46, rfl⟩
abbrev main_while0b_v16 : Ref sig .tc := ⟨.hbm, 47, rfl⟩
abbrev main_while0b_c_15 : Ref sig .tc := ⟨.hbm, 48, rfl⟩
abbrev main_while0b_c_16 : Ref sig .tc := ⟨.hbm, 49, rfl⟩
abbrev main_while0b_v17 : Ref sig .tc := ⟨.hbm, 50, rfl⟩
abbrev main_while0b_c_17 : Ref sig .tc := ⟨.hbm, 51, rfl⟩
abbrev main_while0b_v18 : Ref sig .tc := ⟨.hbm, 52, rfl⟩
abbrev main_while0b_v19 : Ref sig .tc := ⟨.hbm, 53, rfl⟩
abbrev main_while0b_v20 : Ref sig .tc := ⟨.hbm, 54, rfl⟩
abbrev main_while0b_v21 : Ref sig .tc := ⟨.hbm, 55, rfl⟩
abbrev main_while0b_v22 : Ref sig .tc := ⟨.hbm, 56, rfl⟩
abbrev main_while0b_v23 : Ref sig .tc := ⟨.hbm, 57, rfl⟩
abbrev main_while0b_v24 : Ref sig .tc := ⟨.hbm, 58, rfl⟩
abbrev main_while0b_v25 : Ref sig .tc := ⟨.hbm, 59, rfl⟩
abbrev main_while0b_v26 : Ref sig .tc := ⟨.hbm, 60, rfl⟩
abbrev main_while0b_v27 : Ref sig .tc := ⟨.hbm, 61, rfl⟩
abbrev main_while0b_cst_18 : Ref sig .tc := ⟨.hbm, 62, rfl⟩
abbrev main_while0b_call5_v0 : Ref sig .tc := ⟨.hbm, 63, rfl⟩
abbrev main_while0b_call5_v1 : Ref sig .tc := ⟨.hbm, 64, rfl⟩
abbrev main_while0b_call5_v2 : Ref sig .tc := ⟨.hbm, 65, rfl⟩
abbrev main_while0b_v28 : Ref sig .tc := ⟨.hbm, 66, rfl⟩
abbrev main_while0b_v29 : Ref sig .tc := ⟨.hbm, 67, rfl⟩
abbrev main_while0b_v30 : Ref sig .tc := ⟨.hbm, 68, rfl⟩
abbrev main_while0b_v31 : Ref sig .tc := ⟨.hbm, 69, rfl⟩
abbrev main_while0b_v32 : Ref sig .tc := ⟨.hbm, 70, rfl⟩
abbrev main_while0b_call6_v0 : Ref sig .tc := ⟨.hbm, 71, rfl⟩
abbrev main_while0b_call6_c : Ref sig .tc := ⟨.hbm, 72, rfl⟩
abbrev main_while0b_call6_v1 : Ref sig .tc := ⟨.hbm, 73, rfl⟩
abbrev main_while0b_call6_v2 : Ref sig .tc := ⟨.hbm, 74, rfl⟩
abbrev main_while0b_call6_v3 : Ref sig .tc := ⟨.hbm, 75, rfl⟩
abbrev main_while0b_call6_v4 : Ref sig .tc := ⟨.hbm, 76, rfl⟩
abbrev main_while0b_call6_cst : Ref sig .tc := ⟨.hbm, 77, rfl⟩
abbrev main_while0b_call6_v5 : Ref sig .tc := ⟨.hbm, 78, rfl⟩
abbrev main_while0b_v33 : Ref sig .tc := ⟨.hbm, 79, rfl⟩
abbrev main_while0b_call7_v0 : Ref sig .tc := ⟨.hbm, 80, rfl⟩
abbrev main_while0b_call7_c : Ref sig .tc := ⟨.hbm, 81, rfl⟩
abbrev main_while0b_call7_v1 : Ref sig .tc := ⟨.hbm, 82, rfl⟩
abbrev main_while0b_call7_v2 : Ref sig .tc := ⟨.hbm, 83, rfl⟩
abbrev main_while0b_call7_v3 : Ref sig .tc := ⟨.hbm, 84, rfl⟩
abbrev main_while0b_call7_v4 : Ref sig .tc := ⟨.hbm, 85, rfl⟩
abbrev main_while0b_call7_cst : Ref sig .tc := ⟨.hbm, 86, rfl⟩
abbrev main_while0b_call7_v5 : Ref sig .tc := ⟨.hbm, 87, rfl⟩
abbrev main_while0b_v34 : Ref sig .tc := ⟨.hbm, 88, rfl⟩
abbrev main_while0b_v35 : Ref sig .tc := ⟨.hbm, 89, rfl⟩
abbrev main_while0b_v36 : Ref sig .tc := ⟨.hbm, 90, rfl⟩
abbrev main_while0b_v37 : Ref sig .tc := ⟨.hbm, 91, rfl⟩
abbrev main_while0b_v38 : Ref sig .tc := ⟨.hbm, 92, rfl⟩
abbrev main_while0b_v39 : Ref sig .tc := ⟨.hbm, 93, rfl⟩
abbrev main_while0b_v40 : Ref sig .tc := ⟨.hbm, 94, rfl⟩
abbrev main_while0b_v41 : Ref sig .tc := ⟨.hbm, 95, rfl⟩
abbrev main_while0b_v42 : Ref sig .tc := ⟨.hbm, 96, rfl⟩
abbrev main_while0b_v43 : Ref sig .tc := ⟨.hbm, 97, rfl⟩
abbrev main_while0b_cst_19 : Ref sig .tc := ⟨.hbm, 98, rfl⟩
abbrev main_while0b_v44 : Ref sig .tc := ⟨.hbm, 99, rfl⟩
abbrev main_while0b_v45 : Ref sig .tc := ⟨.hbm, 100, rfl⟩
abbrev main_while0b_v46 : Ref sig .tc := ⟨.hbm, 101, rfl⟩
abbrev main_while0b_v47 : Ref sig .tc := ⟨.hbm, 102, rfl⟩
abbrev main_while0b_call8_v0 : Ref sig .tc := ⟨.hbm, 103, rfl⟩
abbrev main_while0b_call8_c : Ref sig .tc := ⟨.hbm, 104, rfl⟩
abbrev main_while0b_call8_c_0 : Ref sig .tc := ⟨.hbm, 105, rfl⟩
abbrev main_while0b_v48 : Ref sig .tc := ⟨.hbm, 106, rfl⟩
abbrev main_while0b_call9_v0 : Ref sig .tc := ⟨.hbm, 107, rfl⟩
abbrev main_while0b_v49 : Ref sig .tc := ⟨.hbm, 108, rfl⟩
abbrev main_while0b_c_20 : Ref sig .tc := ⟨.hbm, 109, rfl⟩
abbrev main_while0b_v50 : Ref sig .tc := ⟨.hbm, 110, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev main_while0_count : Scf.Loop 32 := ⟨0#32, 7#32, 1#32⟩

abbrev grid0 : Pipeline.Grid := .none

abbrev stage0_0 : Fin 1 → Memref sig .tc .vmem S2048x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Pre.lean ====
/-
  What the precondition says: no expert's start is negative.
-/
module

public import proofs.«01_k».proof.Pre_starts_inside
public import Idealize.ShloMosaic.Lib.ReduceAll
public import Idealize.ShloMosaic.Lib.Affine
public import Idealize.ShloMosaic.Lib.ValueIdx

@[expose] public section

noncomputable section

namespace Cert.Pre_starts_inside.Hand

open Cert.Pre_starts_inside
open Idealize.ShloMosaic Idealize.ShloMosaic.ValueIdx

variable [Cert.Pre_starts_inside.Facts] {F : FTy → Type} [FloatOps F]

/-- Where the precondition is all ones, each of the first seven offsets, read signed, is at least zero. -/
theorem nonneg (a0 : FVec F S2048x4096 .fp8e4m3) (a1 : FVec F S7 .f32) (a2 : IVec S8 32) (a3 : FVec F S7x4096x4096 .f32) (a4 : IVec S7 32)
    (h : fn (F := F) a0 a1 a2 a3 a4 = fun _ => 1#1) (j : S8.Idx) (hj : (j 0).val < 7) : 0 ≤ (a2 j).toInt := by
  have e := congrFun h ix0
  have : Subsingleton S_.Idx := ⟨fun a b => funext fun k => k.elim0⟩
  have e' := Host.reduce_andi_all _ _ Facts.reducesTo_S7_S_d0 Facts.h_S_ _ e (ix1 ⟨(j 0).val, hj⟩)
  have e'' := IntOp.cmpi_sge.mp e'
  refine (show (0 : Int) ≤ (0#32 : BitVec 32).toInt by decide).trans (e''.trans (le_of_eq ?_))
  refine congrArg (fun z => BitVec.toInt (a2 z)) ?_
  funext a
  apply Fin.ext
  fin_cases a
  show 0 + (j 0).val = (j 0).val
  omega

end Cert.Pre_starts_inside.Hand

end
-- ==== Proof.Body.lean ====
/-
  The kernel's body at one grid point, run once for a point that stages the expert's rows and once for a point that
  does not: what it leaves in the scratch, in the output block and in the counts.
-/
module

public import proofs.«01_k».proof.Proof.Gen.Kernel.Frame
public import proofs.«01_k».proof.Proof.Gen.Kernel.Skeleton
public import Idealize.ShloMosaic.Lib.Pipeline.Frame
public import Idealize.ShloMosaic.Lib.Pipeline.Value
public import Idealize.ShloMosaic.Lib.Tactic
public import Idealize.ShloMosaic.Lib.ValueIdx
public import Idealize.ShloMosaic.Lib.CellWrites

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The scratch's columns of the grid point's row block. -/
abbrev rl (i : grid0.Coords) : Rect S768x4096 := Rect.unit (s := S768x4096) (k0_off7 i) S768x256.size (k0_off7_inb i)
/-- The scratch's columns of column block `n`. -/
abbrev rc (n : Fin 16) : Rect S768x4096 := Rect.unit (s := S768x4096) ![0, 256 * n.val] S768x256.size (by
  intro a; fin_cases a
  · show 0 + 768 ≤ 768; omega
  · show 256 * n.val + 256 ≤ 4096; omega)
/-- The block's columns of column block `n`. -/
abbrev ro (n : Fin 16) : Rect S1x256x4096 := Rect.unit (s := S1x256x4096) ![0, 0, 256 * n.val] S1x256x256.size (by
  intro a; fin_cases a
  · show 0 + 1 ≤ 1; omega
  · show 0 + 256 ≤ 256; omega
  · show 256 * n.val + 256 ≤ 4096; omega)
/-- The scratch's columns of slab `n`. -/
abbrev rs (n : Fin 32) : Rect S768x4096 := Rect.unit (s := S768x4096) ![0, 128 * n.val] S768x128.size (by
  intro a; fin_cases a
  · show 0 + 768 ≤ 768; omega
  · show 128 * n.val + 128 ≤ 4096; omega)
/-- The words of the offsets, of the counts and of the scales that the point reads. -/
abbrev w1 (i : grid0.Coords) : Rect S8 := Rect.unit (s := S8) (k0_off1 i) S1.size (k0_off1_inb i)
abbrev w2 (i : grid0.Coords) : Rect S8 := Rect.unit (s := S8) (k0_off2 i) S1.size (k0_off2_inb i)
abbrev w3 (i : grid0.Coords) : Rect S7 := Rect.unit (s := S7) (k0_off3 i) S1.size (k0_off3_inb i)
abbrev w6 (i : grid0.Coords) : Rect S7 := Rect.unit (s := S7) (k0_off6 i) S1.size (k0_off6_inb i)

/-! ## What the body leaves -/

/-- The 768 rows of `x` that a window starting at the word `v1` loads. -/
def rowsAt (x : Vec F S2048x4096 .fp8e4m3) (v1 : BitVec 32) : Vec F S768x4096 .fp8e4m3 := fun y =>
  x (ix2 ⟨min ((k0_mult1 v1).toNat + (y 0).val) 2047, by omega⟩ (y 1))

/-- The staged rows: `rows` where the row lies in the expert's group, zero elsewhere. -/
def XM (v1 v4 : BitVec 32) (rows : Vec F S768x4096 .fp8e4m3) : Vec F S768x4096 .fp8e4m3 := fun y =>
  Scalar.select (k0_pay2 (F := F) v1 v4 (ix2 (y 0) ⟨(y 1).val % 128, Nat.mod_lt _ (by omega)⟩)) (rows y) (Scalar.ofBits .fp8e4m3 0x00#8)

/-- One column block of the output's block, the factors `keep`, `gain` and `s2` given. -/
def blk (keep gain : FVec F S1x1 .f32) (s2 : F .f32) (lhs rhs : Vec F S768x256 .fp8e4m3) (h : Vec F S1x256x256 .f32) :
    FVec F S1x256x256 .f32 := k0_pay47 keep gain s2 lhs rhs h

/-- The output's block at a point: the column block of each column, from the staged rows `xm` and the block `h`. -/
def out (i : grid0.Coords) (keep gain : FVec F S1x1 .f32) (s2 : F .f32) (xm : Vec F S768x4096 .fp8e4m3) (h : Vec F S1x256x4096 .f32) :
    Vec F S1x256x4096 .f32 := fun y =>
  blk keep gain s2 (View.ld xm (rl i)) (View.ld xm (rc ⟨(y 2).val / 256, by have := (y 2).isLt; change _ < 4096 at this; omega⟩))
    (View.ld h (ro ⟨(y 2).val / 256, by have := (y 2).isLt; change _ < 4096 at this; omega⟩))
    (ix3 0 (y 1) ⟨(y 2).val % 256, Nat.mod_lt _ (by omega)⟩)

/-- The four words the point reads: where the expert's rows start, where they end, its count and its scale. -/
def wLo (i : grid0.Coords) (x0 : Vec F S8 .i32) : BitVec 32 := View.ld (Val := Elt F) (e' := .i32) x0 (w1 i) (Shape.Idx.first (s := S1) (numel1_S1 ▸ Nat.one_pos))
def wHi (i : grid0.Coords) (x0 : Vec F S8 .i32) : BitVec 32 := View.ld (Val := Elt F) (e' := .i32) x0 (w2 i) (Shape.Idx.first (s := S1) (numel1_S1 ▸ Nat.one_pos))
def wCt (i : grid0.Coords) (x1 : Vec F S7 .i32) : BitVec 32 := View.ld (Val := Elt F) (e' := .i32) x1 (w3 i) (Shape.Idx.first (s := S1) (numel1_S1 ▸ Nat.one_pos))
def wSc (i : grid0.Coords) (x2 : Vec F S7 .f32) : F .f32 := View.ld (Val := Elt F) (e' := .f32) x2 (w6 i) (Shape.Idx.first (s := S1) (numel1_S1 ▸ Nat.one_pos))
/-- The three factors of the update at the point. -/
def keep (i : grid0.Coords) (x0 : Vec F S8 .i32) (x1 : Vec F S7 .i32) : FVec F S1x1 .f32 := k0_pay42 (wLo i x0) (wHi i x0) (wCt i x1) (wCt i x1)
def gain (i : grid0.Coords) (x0 : Vec F S8 .i32) (x1 : Vec F S7 .i32) : FVec F S1x1 .f32 := k0_pay43 (wLo i x0) (wHi i x0) (wCt i x1)
def scl (i : grid0.Coords) (x2 : Vec F S7 .f32) : F .f32 := k0_pay44 (wSc i x2)

/-! ## The stores, as pieces -/

/-- The sixteen stores of the output's block, last first. -/
def outPieces (kp gn : FVec F S1x1 .f32) (s2 : F .f32) (lhs : Vec F S768x256 .fp8e4m3) (g : Fin 16 → Vec F S768x256 .fp8e4m3) (h : Vec F S1x256x4096 .f32) :
    List (View.Piece (Elt F) S1x256x4096 .f32) :=
  List.ofFn fun k : Fin 16 => ⟨ro k.rev, blk kp gn s2 lhs (g k.rev) (View.ld h (ro k.rev))⟩

theorem mem_ro (n : Fin 16) (y : S1x256x4096.Idx) (h : (y 2).val / 256 = n.val) : y ∈ (ro n).set := by
  rw [Rect.mem_set_unit]
  intro a
  have hy0 : (y 0).val < 1 := (y 0).isLt
  have hy1 : (y 1).val < 256 := (y 1).isLt
  fin_cases a
  · exact ⟨Nat.zero_le _, by show (y 0).val < 0 + 1; omega⟩
  · exact ⟨Nat.zero_le _, by show (y 1).val < 0 + 256; omega⟩
  · exact ⟨by show 256 * n.val ≤ (y 2).val; omega, by show (y 2).val < 256 * n.val + 256; omega⟩

theorem mem_rs (n : Fin 32) (y : S768x4096.Idx) (h : (y 1).val / 128 = n.val) : y ∈ (rs n).set := by
  rw [Rect.mem_set_unit]
  intro a
  have hy0 : (y 0).val < 768 := (y 0).isLt
  fin_cases a
  · exact ⟨Nat.zero_le _, by show (y 0).val < 0 + 768; omega⟩
  · exact ⟨by show 128 * n.val ≤ (y 1).val; omega, by show (y 1).val < 128 * n.val + 128; omega⟩

theorem out_cover (kp gn : FVec F S1x1 .f32) (s2 : F .f32) (lhs : Vec F S768x256 .fp8e4m3) (xm : Fin 16 → Vec F S768x256 .fp8e4m3) (h : Vec F S1x256x4096 .f32)
    (y : S1x256x4096.Idx) : ∃ p ∈ outPieces kp gn s2 lhs xm h, y ∈ p.1.set := by
  have hy2 : (y 2).val < 4096 := (y 2).isLt
  refine ⟨_, List.mem_ofFn.mpr ⟨(⟨(y 2).val / 256, by omega⟩ : Fin 16).rev, rfl⟩, ?_⟩
  exact mem_ro _ y (by rw [Fin.rev_rev])

/-- What the sixteen stores leave, whatever the block held. -/
theorem canon_outPieces (i : grid0.Coords) (kp gn : FVec F S1x1 .f32) (s2 : F .f32) (xm : Vec F S768x4096 .fp8e4m3) (h : Vec F S1x256x4096 .f32) :
    View.canon (outPieces kp gn s2 (View.ld xm (rl i)) (fun k => View.ld xm (rc k)) h) = out i kp gn s2 xm h := by
  funext y
  have hy2 : (y 2).val < 4096 := (y 2).isLt
  refine View.canon_apply_of_pieces _ _ ?_ y ?_
  · intro p hp x
    obtain ⟨k, rfl⟩ := (List.mem_ofFn).mp hp
    have hx : (x 2).val < 256 := (x 2).isLt
    have hx0 : (x 0).val < 1 := (x 0).isLt
    have hx1 : (x 1).val < 256 := (x 1).isLt
    have e2 : ((ro k.rev).emb x 2).val = 256 * k.rev.val + (x 2).val := by
      rw [Rect.emb_apply]; show 256 * k.rev.val + 1 * (x 2).val = _; omega
    have e1 : ((ro k.rev).emb x 1).val = (x 1).val := by
      rw [Rect.emb_apply]; show 0 + 1 * (x 1).val = _; omega
    have hd : (⟨((ro k.rev).emb x 2).val / 256, by rw [e2]; omega⟩ : Fin 16) = k.rev := Fin.ext (by show ((ro k.rev).emb x 2).val / 256 = _; rw [e2]; omega)
    have key : ∀ (n : Fin 16) (z : S1x256x256.Idx), n = k.rev → z = x →
        blk kp gn s2 (View.ld xm (rl i)) (View.ld xm (rc k.rev)) (View.ld h (ro k.rev)) x =
          blk kp gn s2 (View.ld xm (rl i)) (View.ld xm (rc n)) (View.ld h (ro n)) z := by
      rintro _ _ rfl rfl; rfl
    refine key _ _ hd ?_
    funext a
    apply Fin.ext
    fin_cases a
    · show 0 = (x 0).val; omega
    · exact e1
    · show ((ro k.rev).emb x 2).val % 256 = (x 2).val; rw [e2]; omega
  · exact out_cover kp gn s2 _ _ h y

theorem slab_slices (n : Fin 32) : S768x4096.Slices ![0, 128 * n.val] S768x128 := by
  refine ⟨rfl, fun a => ?_⟩
  fin_cases a
  · show 0 + 768 ≤ 768; omega
  · show 128 * n.val + 128 ≤ 4096; omega

/-- One slab of the staged rows, as the body stores it. -/
def slab (v1 v4 : BitVec 32) (rows : Vec F S768x4096 .fp8e4m3) (n : Fin 32) : Vec F S768x128 .fp8e4m3 :=
  shapeCast S768x128 (select (k0_pay2 (F := F) v1 v4) (extractStridedSlice S768x128 ![0, 128 * n.val] rows (slab_slices n))
    (broadcast S768x128 (Scalar.ofBits .fp8e4m3 0x00#8))) shapeCasts_S768x128_S768x128

/-- The thirty-two stores of the staged rows, last first. -/
def stagePieces (v1 v4 : BitVec 32) (rows : Vec F S768x4096 .fp8e4m3) : List (View.Piece (Elt F) S768x4096 .fp8e4m3) :=
  List.ofFn fun k : Fin 32 => ⟨rs k.rev, slab v1 v4 rows k.rev⟩

theorem stage_cover (v1 v4 : BitVec 32) (rows : Vec F S768x4096 .fp8e4m3) (y : S768x4096.Idx) : ∃ p ∈ stagePieces v1 v4 rows, y ∈ p.1.set := by
  have hy1 : (y 1).val < 4096 := (y 1).isLt
  refine ⟨_, List.mem_ofFn.mpr ⟨(⟨(y 1).val / 128, by omega⟩ : Fin 32).rev, rfl⟩, ?_⟩
  exact mem_rs _ y (by rw [Fin.rev_rev])

/-- What the thirty-two stores leave, whatever the scratch held. -/
theorem canon_stagePieces (v1 v4 : BitVec 32) (rows : Vec F S768x4096 .fp8e4m3) : View.canon (stagePieces v1 v4 rows) = XM v1 v4 rows := by
  funext y
  refine View.canon_apply_of_pieces _ _ ?_ y (stage_cover v1 v4 rows y)
  intro p hp x
  obtain ⟨k, rfl⟩ := (List.mem_ofFn).mp hp
  have hx : (x 1).val < 128 := (x 1).isLt
  have hx0 : (x 0).val < 768 := (x 0).isLt
  have e1 : ((rs k.rev).emb x 1).val = 128 * k.rev.val + (x 1).val := by
    rw [Rect.emb_apply]; show 128 * k.rev.val + 1 * (x 1).val = _; omega
  have e0 : ((rs k.rev).emb x 0).val = (x 0).val := by
    rw [Rect.emb_apply]; show 0 + 1 * (x 0).val = _; omega
  unfold XM
  have er : extractStridedSlice S768x128 ![0, 128 * k.rev.val] rows (slab_slices k.rev) x = rows ((rs k.rev).emb x) := by
    refine congrArg rows ?_
    funext a
    apply Fin.ext
    fin_cases a
    · exact (Nat.zero_add _).trans e0.symm
    · exact e1.symm
  show slab v1 v4 rows k.rev x = _
  unfold slab
  rw [shapeCast_self]
  show Scalar.select (k0_pay2 (F := F) v1 v4 x) (extractStridedSlice S768x128 ![0, 128 * k.rev.val] rows (slab_slices k.rev) x) _ = _
  rw [er]
  refine congrArg (fun z => Scalar.select (k0_pay2 (F := F) v1 v4 z) (rows ((rs k.rev).emb x)) (Scalar.ofBits .fp8e4m3 0x00#8)) ?_
  funext a
  apply Fin.ext
  fin_cases a
  · exact e0.symm
  · show (x 1).val = ((rs k.rev).emb x 1).val % 128; rw [e1]; omega

/-- The rows a loading rectangle reads, its start in range. -/
theorem ld_rows (x : Vec F S2048x4096 .fp8e4m3) (v1 : BitVec 32) (h : ∀ a, (k0_off5 v1) a + S768x4096.size a ≤ S2048x4096.size a) :
    View.ld (Val := Elt F) (e' := .fp8e4m3) x (Rect.unit (s := S2048x4096) (k0_off5 v1) S768x4096.size h) = rowsAt x v1 := by
  funext y
  have h0 : (k0_mult1 v1).toNat + 768 ≤ 2048 := h 0
  have hy0 : (y 0).val < 768 := (y 0).isLt
  unfold rowsAt
  show x _ = x _
  refine congrArg x ?_
  funext a
  apply Fin.ext
  fin_cases a
  · show (k0_mult1 v1).toNat + 1 * (y 0).val = min ((k0_mult1 v1).toNat + (y 0).val) 2047; omega
  · show 0 + 1 * (y 1).val = (y 1).val; omega

/-- The word the first point of an expert stores in the counts. -/
def wNew (i : grid0.Coords) (x0 : Vec F S8 .i32) (x1 : Vec F S7 .i32) : BitVec 32 :=
  Scalar.addi (wCt i x1) (Scalar.subi (wHi i x0) (wLo i x0))

/-! ## The body at a point -/

theorem sound_rest (c : Dev nD) (i : grid0.Coords) (hi : ¬ k0_cond1 i = 1#1)
    (arg2 : Memref sig .tc .smem S8 .i32) (harg2 : arg2.IsWhole) (arg3 : Memref sig .tc .smem S7 .i32) (harg3 : arg3.IsWhole)
    (arg4 : Memref sig .tc .smem S7 .f32) (harg4 : arg4.IsWhole) (arg5 : Memref sig .tc .vmem S2048x4096 .fp8e4m3) (harg5 : arg5.IsWhole)
    (arg6 : Memref sig .tc .vmem S1x256x4096 .f32) (harg6 : arg6.IsWhole) (arg7 : Memref sig .tc .vmem S1x256x4096 .f32) (harg7 : arg7.IsWhole)
    (arg8 : Memref sig .tc .smem S7 .i32) (harg8 : arg8.IsWhole) (arg9 : Memref sig .tc .vmem S768x4096 .fp8e4m3) (harg9 : arg9.IsWhole)
    (x0 : Vec F S8 .i32) (x1 : Vec F S7 .i32) (x2 : Vec F S7 .f32) (x3 : Vec F S2048x4096 .fp8e4m3) (x4 : Vec F S1x256x4096 .f32)
    (y6 : Vec F S7 .i32) (xm : Vec F S768x4096 .fp8e4m3) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare y6 ∗ owns (c : Thread nD τ) arg9 fullShare xm
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out i (keep i x0 x1) (gain i x0 x1) (scl i x2) xm x4)
            ∗ owns (c : Thread nD τ) arg8 fullShare y6 ∗ owns (c : Thread nD τ) arg9 fullShare xm) -∗ K ⟨⟩))
      ⊢ wp frame (wpE (defs₀ (F := F)) Variants.none c none) Set.univ (cc0_hessian_rows i arg2 harg2 arg3 harg3 arg4 harg4 arg5 harg5 arg6 harg6 arg7 harg7 arg8 harg8 arg9 harg9) K := by
  have hchk : ∀ v, k0_chk1 i v := fun v => ⟨fun h => absurd h hi, fun h => absurd h hi⟩
  simp only [cc0_hessian_rows_eq_skeleton]; unfold cc0_hessian_rows_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  sl_exec (disch := first | exact hchk _ | exact hi)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (View.read_writes_eq_canon _ _ (outPieces (keep i _ _) (gain i _ _) (scl i _) (View.ld (View.read _ arg9.view f7) (rl i)) (fun k => View.ld (View.read _ arg9.view f7) (rc k)) _) (out_cover _ _ _ _ _ _)).trans (canon_outPieces i _ _ _ _ _)
  isplitl [H6]
  · iexists f6; isplitr; · ipureintro; rfl
    iexact H6
  iexists f7; isplitr; · ipureintro; rfl
  iexact H7

theorem sound_first (c : Dev nD) (i : grid0.Coords) (hi : k0_cond1 i = 1#1)
    (arg2 : Memref sig .tc .smem S8 .i32) (harg2 : arg2.IsWhole) (arg3 : Memref sig .tc .smem S7 .i32) (harg3 : arg3.IsWhole)
    (arg4 : Memref sig .tc .smem S7 .f32) (harg4 : arg4.IsWhole) (arg5 : Memref sig .tc .vmem S2048x4096 .fp8e4m3) (harg5 : arg5.IsWhole)
    (arg6 : Memref sig .tc .vmem S1x256x4096 .f32) (harg6 : arg6.IsWhole) (arg7 : Memref sig .tc .vmem S1x256x4096 .f32) (harg7 : arg7.IsWhole)
    (arg8 : Memref sig .tc .smem S7 .i32) (harg8 : arg8.IsWhole) (arg9 : Memref sig .tc .vmem S768x4096 .fp8e4m3) (harg9 : arg9.IsWhole)
    (x0 : Vec F S8 .i32) (hchk : k0_chk1 i (wLo i x0)) (x1 : Vec F S7 .i32) (x2 : Vec F S7 .f32) (x3 : Vec F S2048x4096 .fp8e4m3) (x4 : Vec F S1x256x4096 .f32)
    (y6 : Vec F S7 .i32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare y6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out i (keep i x0 x1) (gain i x0 x1) (scl i x2) (XM (wLo i x0) (wHi i x0) (rowsAt x3 (wLo i x0))) x4)
            ∗ (∃ X, ⌜∀ j : S7.Idx, X j = if (j 0).val = k0_off4 i 0 then wNew i x0 x1 else y6 j⌝ ∗ owns (c : Thread nD τ) arg8 fullShare X)
            ∗ owns (c : Thread nD τ) arg9 fullShare (XM (wLo i x0) (wHi i x0) (rowsAt x3 (wLo i x0)))) -∗ K ⟨⟩))
      ⊢ wp frame (wpE (defs₀ (F := F)) Variants.none c none) Set.univ (cc0_hessian_rows i arg2 harg2 arg3 harg3 arg4 harg4 arg5 harg5 arg6 harg6 arg7 harg7 arg8 harg8 arg9 harg9) K := by
  simp only [cc0_hessian_rows_eq_skeleton]; unfold cc0_hessian_rows_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, Hk⟩
  subst hf0 hf1 hf2 hf3 hf4 hf6
  sl_exec (disch := first | exact hchk | exact hi)
  sl_step
  iapply Hk
  have hH : sound_first.sl.H7_32 c i hi arg2 arg5 f0 f3 hchk = stagePieces (wLo i (View.read (Elt F) arg2.view f0)) (wHi i (View.read (Elt F) arg2.view f0))
      (View.ld (Val := Elt F) (e' := .fp8e4m3) (View.read (Elt F) arg5.view f3) (Rect.unit (s := S2048x4096) (k0_off5 (wLo i (View.read (Elt F) arg2.view f0))) S768x4096.size (hchk.2 hi))) := by
    unfold sound_first.sl.H7_32
    rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    have hX : ∀ r : Rect S768x4096, View.readCov arg9.view (sound_first.sl.H7_32 c i hi arg2 arg5 f0 f3 hchk) r.toLoadRect
        = View.ld (XM (wLo i (View.read (Elt F) arg2.view f0)) (wHi i (View.read (Elt F) arg2.view f0))
            (rowsAt (View.read (Elt F) arg5.view f3) (wLo i (View.read (Elt F) arg2.view f0)))) r := fun r => by
      rw [hH, View.readCov_eq_canon_ld _ _ r (stage_cover _ _ _), canon_stagePieces, ld_rows]
    refine (View.read_writes_eq_canon _ _ (outPieces (keep i _ _) (gain i _ _) (scl i _)
      (View.readCov arg9.view (sound_first.sl.H7_32 c i hi arg2 arg5 f0 f3 hchk) (rl i).toLoadRect)
      (fun k => View.readCov arg9.view (sound_first.sl.H7_32 c i hi arg2 arg5 f0 f3 hchk) (rc k).toLoadRect) _) (out_cover _ _ _ _ _ _)).trans ?_
    rw [hX, funext fun k => hX (rc k)]
    exact canon_outPieces i _ _ _ _ _
  isplitl [H6]
  · iexists _; isplitr
    swap
    · iexists _; isplitr
      swap; · iexact H6
      ipureintro; rfl
    ipureintro
    intro j
    exact View.read_writes_cons_cell _ _ _ _ _ _
  iexists _; isplitr
  swap; · iexact H7
  ipureintro
  rw [hH, View.read_writes_eq_canon _ _ _ (stage_cover _ _ _), canon_stagePieces, ld_rows]

end Cert.Kernel.Hand

end
-- ==== Proof.Run.lean ====
/-
  What the run of the kernel leaves: the proof data of the pipeline, the body's obligation at a point, the launch, and
  the frame.
-/
module

public import proofs.«01_k».proof.Proof.Body
public import Idealize.ShloMosaic.Lib.Pipeline.DatRel
public import Idealize.ShloMosaic.Lib.Pipeline.ArrRel
public import Idealize.ShloMosaic.Lib.Claim
public import Idealize.ShloMosaic.Lib.Affine

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid point's coordinates -/

theorem pt_lt (t : Fin grid0.N) : t.val < 112 := Nat.lt_of_lt_of_eq t.isLt N_0
theorem coord0 : ∀ t : Fin grid0.N, (grid0.coords t 0).val = t.val / 16 := by decide +kernel
theorem coord1 : ∀ t : Fin grid0.N, (grid0.coords t 1).val = t.val % 16 := by decide +kernel
theorem cond_iff : ∀ t : Fin grid0.N, k0_cond1 (grid0.coords t) = 1#1 ↔ t.val % 16 = 0 := by decide +kernel
theorem off1_eq : ∀ t : Fin grid0.N, k0_off1 (grid0.coords t) 0 = t.val / 16 := by decide +kernel
theorem off2_eq : ∀ t : Fin grid0.N, k0_off2 (grid0.coords t) 0 = t.val / 16 + 1 := by decide +kernel
theorem off3_eq : ∀ t : Fin grid0.N, k0_off3 (grid0.coords t) 0 = t.val / 16 := by decide +kernel
theorem off4_eq : ∀ t : Fin grid0.N, k0_off4 (grid0.coords t) 0 = t.val / 16 := by decide +kernel
theorem off6_eq : ∀ t : Fin grid0.N, k0_off6 (grid0.coords t) 0 = t.val / 16 := by decide +kernel
theorem off7_eq : ∀ t : Fin grid0.N, k0_off7 (grid0.coords t) = ![0, 256 * (t.val % 16)] := by decide +kernel
theorem idx0_0 : ∀ t : Fin grid0.N, win0_0.index t 0 = 0 := by decide +kernel
theorem idx0_1 : ∀ t : Fin grid0.N, win0_1.index t 0 = 0 := by decide +kernel
theorem idx0_2 : ∀ t : Fin grid0.N, win0_2.index t 0 = 0 := by decide +kernel
theorem idx0_3 : ∀ t : Fin grid0.N, win0_3.index t 0 = 0 ∧ win0_3.index t 1 = 0 := by decide +kernel
theorem idx0_4 : ∀ t : Fin grid0.N, win0_4.index t 0 = t.val / 16 ∧ win0_4.index t 1 = t.val % 16 ∧ win0_4.index t 2 = 0 := by decide +kernel
theorem idx0_5 : ∀ t : Fin grid0.N, win0_5.index t 0 = t.val / 16 ∧ win0_5.index t 1 = t.val % 16 ∧ win0_5.index t 2 = 0 := by decide +kernel

/-! ## The quantities of an expert, from the arrays -/

/-- Where the rows of expert `n` start and end, its count, its scale. -/
def lo (offs : Vec F S8 .i32) (n : ℕ) : BitVec 32 := offs (ix1 ⟨min n 7, by omega⟩)
def hi (offs : Vec F S8 .i32) (n : ℕ) : BitVec 32 := offs (ix1 ⟨min (n + 1) 7, by omega⟩)
def ct (cnts : Vec F S7 .i32) (n : ℕ) : BitVec 32 := cnts (ix1 ⟨min n 6, by omega⟩)
def sc (scs : Vec F S7 .f32) (n : ℕ) : F .f32 := scs (ix1 ⟨min n 6, by omega⟩)
/-- The factors of the update of expert `n`, its staged rows, its new count. -/
def keepE (offs : Vec F S8 .i32) (cnts : Vec F S7 .i32) (n : ℕ) : FVec F S1x1 .f32 := k0_pay42 (lo (F := F) offs n) (hi (F := F) offs n) (ct (F := F) cnts n) (ct (F := F) cnts n)
def gainE (offs : Vec F S8 .i32) (cnts : Vec F S7 .i32) (n : ℕ) : FVec F S1x1 .f32 := k0_pay43 (lo (F := F) offs n) (hi (F := F) offs n) (ct (F := F) cnts n)
def sclE (scs : Vec F S7 .f32) (n : ℕ) : F .f32 := k0_pay44 (sc scs n)
def XME (offs : Vec F S8 .i32) (x : Vec F S2048x4096 .fp8e4m3) (n : ℕ) : Vec F S768x4096 .fp8e4m3 :=
  XM (lo (F := F) offs n) (hi (F := F) offs n) (rowsAt x (lo (F := F) offs n))
def newE (offs : Vec F S8 .i32) (cnts : Vec F S7 .i32) (n : ℕ) : BitVec 32 :=
  Scalar.addi (ct (F := F) cnts n) (Scalar.subi (hi (F := F) offs n) (lo (F := F) offs n))

theorem wLo_eq (t : Fin grid0.N) (x0 : Vec F S8 .i32) : wLo (F := F) (grid0.coords t) x0 = lo (F := F) x0 (t.val / 16) := by
  refine congrArg x0 ?_
  funext a; apply Fin.ext; fin_cases a
  have h := pt_lt t
  show k0_off1 (grid0.coords t) 0 + 1 * 0 = min (t.val / 16) 7
  rw [off1_eq]; omega
theorem wHi_eq (t : Fin grid0.N) (x0 : Vec F S8 .i32) : wHi (F := F) (grid0.coords t) x0 = hi (F := F) x0 (t.val / 16) := by
  refine congrArg x0 ?_
  funext a; apply Fin.ext; fin_cases a
  have h := pt_lt t
  show k0_off2 (grid0.coords t) 0 + 1 * 0 = min (t.val / 16 + 1) 7
  rw [off2_eq]; omega
theorem wCt_eq (t : Fin grid0.N) (x1 : Vec F S7 .i32) : wCt (F := F) (grid0.coords t) x1 = ct (F := F) x1 (t.val / 16) := by
  refine congrArg x1 ?_
  funext a; apply Fin.ext; fin_cases a
  have h := pt_lt t
  show k0_off3 (grid0.coords t) 0 + 1 * 0 = min (t.val / 16) 6
  rw [off3_eq]; omega
theorem wSc_eq (t : Fin grid0.N) (x2 : Vec F S7 .f32) : wSc (F := F) (grid0.coords t) x2 = sc (F := F) x2 (t.val / 16) := by
  refine congrArg x2 ?_
  funext a; apply Fin.ext; fin_cases a
  have h := pt_lt t
  show k0_off6 (grid0.coords t) 0 + 1 * 0 = min (t.val / 16) 6
  rw [off6_eq]; omega
theorem keep_eq (t : Fin grid0.N) (x0 : Vec F S8 .i32) (x1 : Vec F S7 .i32) : keep (F := F) (grid0.coords t) x0 x1 = keepE x0 x1 (t.val / 16) := by
  unfold keep keepE; rw [wLo_eq, wHi_eq, wCt_eq]
theorem gain_eq (t : Fin grid0.N) (x0 : Vec F S8 .i32) (x1 : Vec F S7 .i32) : gain (F := F) (grid0.coords t) x0 x1 = gainE x0 x1 (t.val / 16) := by
  unfold gain gainE; rw [wLo_eq, wHi_eq, wCt_eq]
theorem scl_eq (t : Fin grid0.N) (x2 : Vec F S7 .f32) : scl (grid0.coords t) x2 = sclE x2 (t.val / 16) := by
  unfold scl sclE; rw [wSc_eq]
theorem wNew_eq (t : Fin grid0.N) (x0 : Vec F S8 .i32) (x1 : Vec F S7 .i32) : wNew (F := F) (grid0.coords t) x0 x1 = newE (F := F) x0 x1 (t.val / 16) := by
  unfold wNew newE; rw [wLo_eq, wHi_eq, wCt_eq]

/-! ## The blocks of the inputs -/

theorem iblk0_eq (c : Dev nD) (t : Fin cfg0.N) : iblk m c 0 t = V m c main_arg2 := by
  funext j
  show V m c main_arg2 (((cfg0.win 0).blk t).view.emb j) = V m c main_arg2 j
  refine congrArg _ ?_
  funext a; apply Fin.ext; fin_cases a
  show win0_0.index t 0 * 8 + 1 * (j 0).val = (j 0).val
  rw [idx0_0]; omega
theorem iblk1_eq (c : Dev nD) (t : Fin cfg0.N) : iblk m c 1 t = V m c main_arg4 := by
  funext j
  show V m c main_arg4 (((cfg0.win 1).blk t).view.emb j) = V m c main_arg4 j
  refine congrArg _ ?_
  funext a; apply Fin.ext; fin_cases a
  show win0_1.index t 0 * 7 + 1 * (j 0).val = (j 0).val
  rw [idx0_1]; omega
theorem iblk2_eq (c : Dev nD) (t : Fin cfg0.N) : iblk m c 2 t = V m c main_arg1 := by
  funext j
  show V m c main_arg1 (((cfg0.win 2).blk t).view.emb j) = V m c main_arg1 j
  refine congrArg _ ?_
  funext a; apply Fin.ext; fin_cases a
  show win0_2.index t 0 * 7 + 1 * (j 0).val = (j 0).val
  rw [idx0_2]; omega
theorem iblk3_eq (c : Dev nD) (t : Fin cfg0.N) : iblk m c 3 t = V m c main_arg0 := by
  funext j
  show V m c main_arg0 (((cfg0.win 3).blk t).view.emb j) = V m c main_arg0 j
  refine congrArg _ ?_
  funext a; apply Fin.ext; fin_cases a
  · show win0_3.index t 0 * 2048 + 1 * (j 0).val = (j 0).val
    rw [(idx0_3 t).1]; omega
  · show win0_3.index t 1 * 4096 + 1 * (j 1).val = (j 1).val
    rw [(idx0_3 t).2]; omega

/-! ## The proof data -/

/-- What the point leaves in the output's block, from the arrays. -/
def outAt (c : Dev nD) (t : Fin cfg0.N) : Vec F S1x256x4096 .f32 :=
  out (grid0.coords t) (keepE (V m c main_arg2) (V m c main_arg4) (t.val / 16)) (gainE (V m c main_arg2) (V m c main_arg4) (t.val / 16))
    (sclE (V m c main_arg1) (t.val / 16)) (XME (V m c main_arg2) (V m c main_arg0) (t.val / 16)) (iblk m c 4 t)

/-- The scratch and the generator register before point `t`: after an expert's first point the scratch holds its rows. -/
def inv (c : Dev nD) (t : Fin (cfg0.N + 1)) : sProp 𝕄 :=
  iprop((∃ d, ⌜t.val % 16 ≠ 0 → d = XME (V m c main_arg2) (V m c main_arg0) (t.val / 16)⌝ ∗ owns (c : Thread nD τ) (Memref.whole cc0_scratch0) fullShare d)
    ∗ ∃ r, prngReg c r)

/-- The windows whose contents are followed by a relation: the counts'. -/
def fgt0 : Fin 7 → Bool := fun | ⟨6, _⟩ => true | _ => false

/-- The proof data: the arrays as the region finds them; every input's buffer at its block, the output's at `outAt`, the counts'
    followed by the relation `Rl0`; the invariant `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => Pipeline.Dat.unnamed (cfg := cfg0) 6 t
  Φ t := inv m c t
  q _ := fullShare
  owed _ := 0

/-- The new counts up to the point's expert are stored. -/
def cntRel (c : Dev nD) (t : Fin cfg0.N) (X : Vec F S7 .i32) : Prop :=
  ∀ j : S7.Idx, (j 0).val ≤ t.val / 16 → X j = newE (F := F) (V m c main_arg2) (V m c main_arg4) (j 0).val

def Rl0 (c : Dev nD) : (w : Fin cfg0.W) → Fin cfg0.N → ((cfg0.win w).block.Idx → Elt F (cfg0.win w).elt) → Prop
  | ⟨6, _⟩ => fun t X => cntRel m c t X
  | _ => fun _ _ => True

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the counts' buffer may hold before a point that is not the first: the relation at the point before. -/
theorem finds6 (c : Dev nD) (t : Fin cfg0.N) (ht : t.val ≠ 0) (Y : Vec F S7 .i32)
    (h : ((dats m 0 c).toRRel fgt0 (Rl0 m c)).Finds 6 t Y) : ∃ t' : Fin cfg0.N, t'.val + 1 = t.val ∧ cntRel m c t' Y := by
  have hN : t.val < 112 := pt_lt t
  have hf : (cfg0.win 6).fetch t = false := rfl
  rcases (Pipeline.RDat.finds_of_pos _ hf ht Y).mp h with h | h
  · exfalso
    have h' := (flush0_6 ⟨t.val - 1, by have := t.isLt; omega⟩).mp h
    simp only at h'
    omega
  · exact ⟨⟨t.val - 1, by have := t.isLt; omega⟩, by show t.val - 1 + 1 = t.val; omega, Dat.toRRel_leaves (dats m 0 c) (show fgt0 6 = true from rfl) h⟩

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜((dats m 0 c).toRRel fgt0 (Rl0 m c)).Finds 6 t Y⌝ ∗ owns (c : Thread nD τ) (st0_6 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜Rl0 m c 6 t X⌝ ∗ owns (c : Thread nD τ) (st0_6 t) fullShare X))

/-- The loads of the rows stay inside the array. -/
def Inside : Prop := ∀ (c : Dev nD) (t : Fin cfg0.N), k0_chk1 (grid0.coords t) (lo (F := F) (V m c main_arg2) (t.val / 16))

/-- The body at any point. -/
theorem sound_body (hin : Inside m) (c : Dev nD) (t : Fin cfg0.N) :
    bodyPre m c t ⊢ wp frame (wpE (defs₀ (F := F)) Variants.none c none) Set.univ (bodyAt0 t) (fun _ => bodyPost m c t) := by
  have hN : t.val < 112 := pt_lt t
  unfold bodyPre bodyPost bodyAt0
  simp only [before0_0, before0_1, before0_2, before0_3, before0_4]
  rw [show (dats m 0 c).Φ t.succ = inv m c t.succ from rfl, show (dats m 0 c).Φ t.castSucc = inv m c t.castSucc from rfl,
    show (dats m 0 c).owesAt () t.succ = (dats m 0 c).owesAt () t.castSucc from rfl,
    after0_0, after0_1, after0_2, after0_3, after0_4, after0_5]
  unfold inv
  by_cases h0 : t.val % 16 = 0
  · iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%Y, %hY, H6⟩⟩
    have hchk : k0_chk1 (grid0.coords t) (wLo (F := F) (grid0.coords t) (iblk m c 0 t)) := by
      rw [wLo_eq, iblk0_eq]; exact hin c t
    iapply (sound_first c (grid0.coords t) ((cond_iff t).mpr h0) _ _ _ _ _ _ _ _ _ _ _ _ _ _ _ _
      (iblk m c 0 t) hchk (iblk m c 1 t) (iblk m c 2 t) (iblk m c 3 t) (iblk m c 4 t) Y _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexists _; iexact HS
    rw [keep_eq, gain_eq, scl_eq, wLo_eq, wHi_eq, wNew_eq]
    iintro ⟨H0, H1, H2, H3, H4, H5, ⟨%X, %hX, H6⟩, HS⟩
    isplitl [HS Hg]
    · isplitl [HS]
      · iexists _; isplitr; swap; · iexact HS
        ipureintro
        intro _
        rw [iblk0_eq, iblk3_eq]
        show _ = XME _ _ ((t.val + 1) / 16)
        rw [show (t.val + 1) / 16 = t.val / 16 by omega]; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold outAt XME
      rw [iblk0_eq, iblk1_eq, iblk2_eq, iblk3_eq]; iexact H5
    iexists X; isplitr; swap; · iexact H6
    ipureintro
    intro j hj
    rw [hX j, off4_eq, iblk0_eq, iblk1_eq]
    by_cases hje : (j 0).val = t.val / 16
    · rw [if_pos hje, hje]
    · rw [if_neg hje]
      obtain ⟨t', ht', hR⟩ := finds6 m c t (by omega) Y hY
      exact hR j (by omega)
  · iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%Y, %hY, H6⟩⟩
    obtain rfl := hd h0
    iapply (sound_rest c (grid0.coords t) (fun h => h0 ((cond_iff t).mp h)) _ _ _ _ _ _ _ _ _ _ _ _ _ _ _ _
      (iblk m c 0 t) (iblk m c 1 t) (iblk m c 2 t) (iblk m c 3 t) (iblk m c 4 t) Y _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    rw [keep_eq, gain_eq, scl_eq]
    iintro ⟨H0, H1, H2, H3, H4, H5, H6, HS⟩
    isplitl [HS Hg]
    · isplitl [HS]
      · iexists _; isplitr; swap; · iexact HS
        ipureintro
        intro (h1 : (t.val + 1) % 16 ≠ 0)
        show XME _ _ (t.val / 16) = XME _ _ ((t.val + 1) / 16)
        rw [show (t.val + 1) / 16 = t.val / 16 by omega]
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold outAt
      rw [iblk0_eq, iblk1_eq, iblk2_eq]; iexact H5
    iexists Y; isplitr; swap; · iexact H6
    ipureintro
    intro j hj
    obtain ⟨t', ht', hR⟩ := finds6 m c t (by omega) Y hY
    exact hR j (by omega)

theorem defs₀_row (t : Fin cfg0.N) : defs₀ (F := F) .tc cfg0.body (cfg0.bodyArgs t (cfg0.slots t)) = bodyAt0 t := by
  unfold defs₀; rw [Defs.onTc_tc]

theorem body_obligation (hin : Inside m) (c : Dev nD) :
    BodyObligationRel (dats (F := F) m 0 c) (defs₀ (F := F)) Variants.none () Set.univ fgt0 (Rl0 m c) := fun t => by
  rw [bigSep_W0, bigSep_W0, defs₀_row]
  exact triple_restated (sound_body m hin c t) rfl .rfl fun _ => .rfl

/-! ## The launch -/

/-- The proof data with the counts followed by their relation. -/
abbrev rdats (c : Dev nD) := (dats (F := F) m 0 c).toRRel fgt0 (Rl0 m c)

theorem inv_in (c : Dev nD) : (Pipeline.ΦA spec0 c : sProp 𝕄) ⊢ inv m c 0 := by
  unfold inv Pipeline.ΦA
  rw [scopedRest0_eq]
  simp only [owns_whole]
  iintro ⟨⟨%f, H⟩, Hg⟩
  isplitl [H]
  · iexists f
    isplitr
    · ipureintro; intro h; exact absurd (Nat.zero_mod 16) h
    iexact H
  iexact Hg

theorem inv_out (c : Dev nD) : inv m c (Fin.last cfg0.N) ⊢ (Pipeline.ΦA spec0 c : sProp 𝕄) := by
  unfold inv Pipeline.ΦA
  rw [scopedRest0_eq]
  simp only [owns_whole]
  iintro ⟨⟨%d, -, H⟩, Hg⟩
  isplitl [H]
  · iexists d; iexact H
  iexact Hg

-- the launch theorem's implicit arguments are found by unifying its conclusion with this statement, which takes unfolding plain
-- definitions in a metavariable's type
set_option backward.isDefEq.respectTransparency.types false in
/-- The launch: @main terminates, every array of the pipeline ends at what the proof data say of it, every counter at zero. -/
theorem run_main (hin : Inside m) : θ_run defs (onTc (τ := τ) (main (F := F))) (s₀ m ρ)
    (fun r => Pipeline.RDat.FramePost (cfgs 0) (rdats m) (V m) r ∧ r.2.sem = fun _ => 0) :=
  Pipeline.RDat.θ_run_frame_track (Q' := _) cfgs (0 : Fin 1) launch0 defs₀ Variants.none (rdats m) m ρ main
    (hbody := fun c => (body_obligation m hin c).toRRel) (hshare := fun c => (dats m 0 c).share_full fun _ => rfl)
    (howed := fun _ _ => rfl) (V := V m) (hmain := hmain m Variants.none) (hA := A_eq m)
    (hin := inv_in m) (hout := inv_out m)

/-- An argument's array ends as it was launched. -/
theorem final_args {r : PUnit × MemSt nD τ sig (Elt F)} (h : Pipeline.RDat.FramePost (cfgs 0) (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.arr_in c 3 rfl).trans (A_eq m c 3), (h.arr_in c 2 rfl).trans (A_eq m c 2), (h.arr_in c 0 rfl).trans (A_eq m c 0),
    (h.arr_in c 4 rfl).trans (A_eq m c 4), (h.arr_in c 1 rfl).trans (A_eq m c 1)⟩

/-- The frame, where the loads of the rows stay inside the array: @main terminates, the arguments end unchanged, every
    counter at zero. -/
theorem frame (hin : Inside m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨final_args m h.1, h.2⟩) (run_main m ρ hin)

/-! ## The loads stay inside the array -/

open Affine in
/-- The word the rows are loaded from, for a start that is not negative: the start rounded down to a multiple of 32, at
    most 1280. -/
theorem mult_int (v : BitVec 32) (hv : 0 ≤ v.toInt) : IsInt (k0_mult1 v) (min (v.toInt / 32 * 32) 1280) := by
  have hw := word v
  have hr := word_range v
  have w0 : IsInt 0#32 0 := ofNat 0 (by omega)
  have w32 : IsInt 32#32 32 := ofNat 32 (by omega)
  have w1280 : IsInt 1280#32 1280 := ofNat 1280 (by omega)
  have hd : IsInt (Scalar.divsi v 32#32) (v.toInt / 32) := divsi hw w32 (by omega)
  have hs : ∀ a : BitVec 32, IsInt (Scalar.select (Scalar.andi
      (Scalar.cmpi .ne (Scalar.subi (Scalar.extui (Scalar.cmpi .sgt v 0#32)) (Scalar.extui (Scalar.cmpi .slt v 0#32)))
        (Scalar.subi (Scalar.extui (Scalar.cmpi .sgt 32#32 0#32)) (Scalar.extui (Scalar.cmpi .slt 32#32 0#32))))
      (Scalar.cmpi .ne (Scalar.remsi v 32#32) 0#32)) a (Scalar.divsi v 32#32)) (v.toInt / 32) := by
    intro a
    refine select_fails ?_ (word a) hd rfl
    by_cases h0 : v.toInt = 0
    · exact andi_fails_right trivial (ne_fails (remsi hw w32 (e := 0) (by omega)) w0 rfl)
    · refine andi_fails_left (ne_fails (ea := 1) (eb := 1) ?_ ?_ rfl) trivial
      · exact subi (extui_holds (sgt_holds hw w0 (by omega)) rfl) (extui_fails (slt_fails hw w0 (by omega)) rfl) (by omega)
      · exact subi (extui_holds (sgt_holds w32 w0 (by omega)) rfl) (extui_fails (slt_fails w32 w0 (by omega)) rfl) (by omega)
  exact minsi (muli (hs _) w32 (e := v.toInt / 32 * 32) (by omega)) w1280 rfl

/-- A start of the rows that is not negative puts the loaded window inside the array. -/
theorem chk_of_nonneg (i : grid0.Coords) (v : BitVec 32) (hv : 0 ≤ v.toInt) : k0_chk1 i v := by
  have key : 32 ∣ (k0_mult1 v).toNat ∧ (k0_mult1 v).toNat ≤ 1280 := by
    have h := mult_int v hv
    refine ⟨Affine.dvd_of h 32 ⟨?_, by omega⟩, ?_⟩
    · rcases Int.le_total (v.toInt / 32 * 32) 1280 with h' | h'
      · rw [min_eq_left h']; exact Dvd.intro_left _ rfl
      · rw [min_eq_right h']; decide
    · have := Affine.toNat_of h (by omega)
      omega
  refine ⟨fun _ => key.1, fun _ a => ?_⟩
  fin_cases a
  · show (k0_mult1 v).toNat + 768 ≤ 2048; omega
  · show 0 + 4096 ≤ 4096; omega

/-- The loads stay inside the array where no expert's start is negative. -/
theorem inside_of (h : ∀ (c : Dev nD) (j : S8.Idx), (j 0).val < 7 → 0 ≤ (BitVec.toInt (V m c main_arg2 j))) : Inside m := fun c t =>
  chk_of_nonneg _ _ (h c _ (by have := pt_lt t; show min (t.val / 16) 7 < 7; omega))

end Cert.Kernel.Hand

end
-- ==== Proof.BodyIdeal.lean ====
/-
  The idealized kernel's body at one grid point, run once for a point that stages the expert's rows and once for a point that
  does not: what it leaves in the scratch, in the output block and in the counts.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.Value
public import Idealize.ShloMosaic.Lib.Tactic
public import Idealize.ShloMosaic.Lib.ValueIdx
public import Idealize.ShloMosaic.Lib.CellWrites

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The scratch's columns of the grid point's row block. -/
abbrev rl (i : grid0.Coords) : Rect S768x4096 := Rect.unit (s := S768x4096) (k0_off7 i) S768x256.size (k0_off7_inb i)
/-- The scratch's columns of column block `n`. -/
abbrev rc (n : Fin 16) : Rect S768x4096 := Rect.unit (s := S768x4096) ![0, 256 * n.val] S768x256.size (by
  intro a; fin_cases a
  · show 0 + 768 ≤ 768; omega
  · show 256 * n.val + 256 ≤ 4096; omega)
/-- The block's columns of column block `n`. -/
abbrev ro (n : Fin 16) : Rect S1x256x4096 := Rect.unit (s := S1x256x4096) ![0, 0, 256 * n.val] S1x256x256.size (by
  intro a; fin_cases a
  · show 0 + 1 ≤ 1; omega
  · show 0 + 256 ≤ 256; omega
  · show 256 * n.val + 256 ≤ 4096; omega)
/-- The scratch's columns of slab `n`. -/
abbrev rs (n : Fin 32) : Rect S768x4096 := Rect.unit (s := S768x4096) ![0, 128 * n.val] S768x128.size (by
  intro a; fin_cases a
  · show 0 + 768 ≤ 768; omega
  · show 128 * n.val + 128 ≤ 4096; omega)
/-- The words of the offsets, of the counts and of the scales that the point reads. -/
abbrev w1 (i : grid0.Coords) : Rect S8 := Rect.unit (s := S8) (k0_off1 i) S1.size (k0_off1_inb i)
abbrev w2 (i : grid0.Coords) : Rect S8 := Rect.unit (s := S8) (k0_off2 i) S1.size (k0_off2_inb i)
abbrev w3 (i : grid0.Coords) : Rect S7 := Rect.unit (s := S7) (k0_off3 i) S1.size (k0_off3_inb i)
abbrev w6 (i : grid0.Coords) : Rect S7 := Rect.unit (s := S7) (k0_off6 i) S1.size (k0_off6_inb i)

/-! ## What the body leaves -/

/-- The 768 rows of `x` that a window starting at the word `v1` loads. -/
def rowsAt (x : Vec F S2048x4096 .fp8e4m3) (v1 : BitVec 32) : Vec F S768x4096 .fp8e4m3 := fun y =>
  x (ix2 ⟨min ((k0_mult1 v1).toNat + (y 0).val) 2047, by omega⟩ (y 1))

/-- The staged rows: `rows` where the row lies in the expert's group, zero elsewhere. -/
def XM (v1 v4 : BitVec 32) (rows : Vec F S768x4096 .fp8e4m3) : Vec F S768x4096 .fp8e4m3 := fun y =>
  Scalar.select (k0_pay2 (F := F) v1 v4 (ix2 (y 0) ⟨(y 1).val % 128, Nat.mod_lt _ (by omega)⟩)) (rows y) (Scalar.ofBits .fp8e4m3 0x00#8)

/-- One column block of the output's block, the factors `keep`, `gain` and `s2` given. -/
def blk (keep gain : FVec F S1x1 .f32) (s2 : F .f32) (lhs rhs : Vec F S768x256 .fp8e4m3) (h : Vec F S1x256x256 .f32) :
    FVec F S1x256x256 .f32 := k0_pay47 keep gain s2 lhs rhs h

/-- The output's block at a point: the column block of each column, from the staged rows `xm` and the block `h`. -/
def out (i : grid0.Coords) (keep gain : FVec F S1x1 .f32) (s2 : F .f32) (xm : Vec F S768x4096 .fp8e4m3) (h : Vec F S1x256x4096 .f32) :
    Vec F S1x256x4096 .f32 := fun y =>
  blk keep gain s2 (View.ld xm (rl i)) (View.ld xm (rc ⟨(y 2).val / 256, by have := (y 2).isLt; change _ < 4096 at this; omega⟩))
    (View.ld h (ro ⟨(y 2).val / 256, by have := (y 2).isLt; change _ < 4096 at this; omega⟩))
    (ix3 0 (y 1) ⟨(y 2).val % 256, Nat.mod_lt _ (by omega)⟩)

/-- The four words the point reads: where the expert's rows start, where they end, its count and its scale. -/
def wLo (i : grid0.Coords) (x0 : Vec F S8 .i32) : BitVec 32 := View.ld (Val := Elt F) (e' := .i32) x0 (w1 i) (Shape.Idx.first (s := S1) (numel1_S1 ▸ Nat.one_pos))
def wHi (i : grid0.Coords) (x0 : Vec F S8 .i32) : BitVec 32 := View.ld (Val := Elt F) (e' := .i32) x0 (w2 i) (Shape.Idx.first (s := S1) (numel1_S1 ▸ Nat.one_pos))
def wCt (i : grid0.Coords) (x1 : Vec F S7 .i32) : BitVec 32 := View.ld (Val := Elt F) (e' := .i32) x1 (w3 i) (Shape.Idx.first (s := S1) (numel1_S1 ▸ Nat.one_pos))
def wSc (i : grid0.Coords) (x2 : Vec F S7 .f32) : F .f32 := View.ld (Val := Elt F) (e' := .f32) x2 (w6 i) (Shape.Idx.first (s := S1) (numel1_S1 ▸ Nat.one_pos))
/-- The three factors of the update at the point. -/
def keep (i : grid0.Coords) (x0 : Vec F S8 .i32) (x1 : Vec F S7 .i32) : FVec F S1x1 .f32 := k0_pay42 (wLo i x0) (wHi i x0) (wCt i x1) (wCt i x1)
def gain (i : grid0.Coords) (x0 : Vec F S8 .i32) (x1 : Vec F S7 .i32) : FVec F S1x1 .f32 := k0_pay43 (wLo i x0) (wHi i x0) (wCt i x1)
def scl (i : grid0.Coords) (x2 : Vec F S7 .f32) : F .f32 := k0_pay44 (wSc i x2)

/-! ## The stores, as pieces -/

/-- The sixteen stores of the output's block, last first. -/
def outPieces (kp gn : FVec F S1x1 .f32) (s2 : F .f32) (lhs : Vec F S768x256 .fp8e4m3) (g : Fin 16 → Vec F S768x256 .fp8e4m3) (h : Vec F S1x256x4096 .f32) :
    List (View.Piece (Elt F) S1x256x4096 .f32) :=
  List.ofFn fun k : Fin 16 => ⟨ro k.rev, blk kp gn s2 lhs (g k.rev) (View.ld h (ro k.rev))⟩

theorem mem_ro (n : Fin 16) (y : S1x256x4096.Idx) (h : (y 2).val / 256 = n.val) : y ∈ (ro n).set := by
  rw [Rect.mem_set_unit]
  intro a
  have hy0 : (y 0).val < 1 := (y 0).isLt
  have hy1 : (y 1).val < 256 := (y 1).isLt
  fin_cases a
  · exact ⟨Nat.zero_le _, by show (y 0).val < 0 + 1; omega⟩
  · exact ⟨Nat.zero_le _, by show (y 1).val < 0 + 256; omega⟩
  · exact ⟨by show 256 * n.val ≤ (y 2).val; omega, by show (y 2).val < 256 * n.val + 256; omega⟩

theorem mem_rs (n : Fin 32) (y : S768x4096.Idx) (h : (y 1).val / 128 = n.val) : y ∈ (rs n).set := by
  rw [Rect.mem_set_unit]
  intro a
  have hy0 : (y 0).val < 768 := (y 0).isLt
  fin_cases a
  · exact ⟨Nat.zero_le _, by show (y 0).val < 0 + 768; omega⟩
  · exact ⟨by show 128 * n.val ≤ (y 1).val; omega, by show (y 1).val < 128 * n.val + 128; omega⟩

theorem out_cover (kp gn : FVec F S1x1 .f32) (s2 : F .f32) (lhs : Vec F S768x256 .fp8e4m3) (xm : Fin 16 → Vec F S768x256 .fp8e4m3) (h : Vec F S1x256x4096 .f32)
    (y : S1x256x4096.Idx) : ∃ p ∈ outPieces kp gn s2 lhs xm h, y ∈ p.1.set := by
  have hy2 : (y 2).val < 4096 := (y 2).isLt
  refine ⟨_, List.mem_ofFn.mpr ⟨(⟨(y 2).val / 256, by omega⟩ : Fin 16).rev, rfl⟩, ?_⟩
  exact mem_ro _ y (by rw [Fin.rev_rev])

/-- What the sixteen stores leave, whatever the block held. -/
theorem canon_outPieces (i : grid0.Coords) (kp gn : FVec F S1x1 .f32) (s2 : F .f32) (xm : Vec F S768x4096 .fp8e4m3) (h : Vec F S1x256x4096 .f32) :
    View.canon (outPieces kp gn s2 (View.ld xm (rl i)) (fun k => View.ld xm (rc k)) h) = out i kp gn s2 xm h := by
  funext y
  have hy2 : (y 2).val < 4096 := (y 2).isLt
  refine View.canon_apply_of_pieces _ _ ?_ y ?_
  · intro p hp x
    obtain ⟨k, rfl⟩ := (List.mem_ofFn).mp hp
    have hx : (x 2).val < 256 := (x 2).isLt
    have hx0 : (x 0).val < 1 := (x 0).isLt
    have hx1 : (x 1).val < 256 := (x 1).isLt
    have e2 : ((ro k.rev).emb x 2).val = 256 * k.rev.val + (x 2).val := by
      rw [Rect.emb_apply]; show 256 * k.rev.val + 1 * (x 2).val = _; omega
    have e1 : ((ro k.rev).emb x 1).val = (x 1).val := by
      rw [Rect.emb_apply]; show 0 + 1 * (x 1).val = _; omega
    have hd : (⟨((ro k.rev).emb x 2).val / 256, by rw [e2]; omega⟩ : Fin 16) = k.rev := Fin.ext (by show ((ro k.rev).emb x 2).val / 256 = _; rw [e2]; omega)
    have key : ∀ (n : Fin 16) (z : S1x256x256.Idx), n = k.rev → z = x →
        blk kp gn s2 (View.ld xm (rl i)) (View.ld xm (rc k.rev)) (View.ld h (ro k.rev)) x =
          blk kp gn s2 (View.ld xm (rl i)) (View.ld xm (rc n)) (View.ld h (ro n)) z := by
      rintro _ _ rfl rfl; rfl
    refine key _ _ hd ?_
    funext a
    apply Fin.ext
    fin_cases a
    · show 0 = (x 0).val; omega
    · exact e1
    · show ((ro k.rev).emb x 2).val % 256 = (x 2).val; rw [e2]; omega
  · exact out_cover kp gn s2 _ _ h y

theorem slab_slices (n : Fin 32) : S768x4096.Slices ![0, 128 * n.val] S768x128 := by
  refine ⟨rfl, fun a => ?_⟩
  fin_cases a
  · show 0 + 768 ≤ 768; omega
  · show 128 * n.val + 128 ≤ 4096; omega

/-- One slab of the staged rows, as the body stores it. -/
def slab (v1 v4 : BitVec 32) (rows : Vec F S768x4096 .fp8e4m3) (n : Fin 32) : Vec F S768x128 .fp8e4m3 :=
  shapeCast S768x128 (select (k0_pay2 (F := F) v1 v4) (extractStridedSlice S768x128 ![0, 128 * n.val] rows (slab_slices n))
    (broadcast S768x128 (Scalar.ofBits .fp8e4m3 0x00#8))) shapeCasts_S768x128_S768x128

/-- The thirty-two stores of the staged rows, last first. -/
def stagePieces (v1 v4 : BitVec 32) (rows : Vec F S768x4096 .fp8e4m3) : List (View.Piece (Elt F) S768x4096 .fp8e4m3) :=
  List.ofFn fun k : Fin 32 => ⟨rs k.rev, slab v1 v4 rows k.rev⟩

theorem stage_cover (v1 v4 : BitVec 32) (rows : Vec F S768x4096 .fp8e4m3) (y : S768x4096.Idx) : ∃ p ∈ stagePieces v1 v4 rows, y ∈ p.1.set := by
  have hy1 : (y 1).val < 4096 := (y 1).isLt
  refine ⟨_, List.mem_ofFn.mpr ⟨(⟨(y 1).val / 128, by omega⟩ : Fin 32).rev, rfl⟩, ?_⟩
  exact mem_rs _ y (by rw [Fin.rev_rev])

/-- What the thirty-two stores leave, whatever the scratch held. -/
theorem canon_stagePieces (v1 v4 : BitVec 32) (rows : Vec F S768x4096 .fp8e4m3) : View.canon (stagePieces v1 v4 rows) = XM v1 v4 rows := by
  funext y
  refine View.canon_apply_of_pieces _ _ ?_ y (stage_cover v1 v4 rows y)
  intro p hp x
  obtain ⟨k, rfl⟩ := (List.mem_ofFn).mp hp
  have hx : (x 1).val < 128 := (x 1).isLt
  have hx0 : (x 0).val < 768 := (x 0).isLt
  have e1 : ((rs k.rev).emb x 1).val = 128 * k.rev.val + (x 1).val := by
    rw [Rect.emb_apply]; show 128 * k.rev.val + 1 * (x 1).val = _; omega
  have e0 : ((rs k.rev).emb x 0).val = (x 0).val := by
    rw [Rect.emb_apply]; show 0 + 1 * (x 0).val = _; omega
  unfold XM
  have er : extractStridedSlice S768x128 ![0, 128 * k.rev.val] rows (slab_slices k.rev) x = rows ((rs k.rev).emb x) := by
    refine congrArg rows ?_
    funext a
    apply Fin.ext
    fin_cases a
    · exact (Nat.zero_add _).trans e0.symm
    · exact e1.symm
  show slab v1 v4 rows k.rev x = _
  unfold slab
  rw [shapeCast_self]
  show Scalar.select (k0_pay2 (F := F) v1 v4 x) (extractStridedSlice S768x128 ![0, 128 * k.rev.val] rows (slab_slices k.rev) x) _ = _
  rw [er]
  refine congrArg (fun z => Scalar.select (k0_pay2 (F := F) v1 v4 z) (rows ((rs k.rev).emb x)) (Scalar.ofBits .fp8e4m3 0x00#8)) ?_
  funext a
  apply Fin.ext
  fin_cases a
  · exact e0.symm
  · show (x 1).val = ((rs k.rev).emb x 1).val % 128; rw [e1]; omega

/-- The rows a loading rectangle reads, its start in range. -/
theorem ld_rows (x : Vec F S2048x4096 .fp8e4m3) (v1 : BitVec 32) (h : ∀ a, (k0_off5 v1) a + S768x4096.size a ≤ S2048x4096.size a) :
    View.ld (Val := Elt F) (e' := .fp8e4m3) x (Rect.unit (s := S2048x4096) (k0_off5 v1) S768x4096.size h) = rowsAt x v1 := by
  funext y
  have h0 : (k0_mult1 v1).toNat + 768 ≤ 2048 := h 0
  have hy0 : (y 0).val < 768 := (y 0).isLt
  unfold rowsAt
  show x _ = x _
  refine congrArg x ?_
  funext a
  apply Fin.ext
  fin_cases a
  · show (k0_mult1 v1).toNat + 1 * (y 0).val = min ((k0_mult1 v1).toNat + (y 0).val) 2047; omega
  · show 0 + 1 * (y 1).val = (y 1).val; omega

/-- The word the first point of an expert stores in the counts. -/
def wNew (i : grid0.Coords) (x0 : Vec F S8 .i32) (x1 : Vec F S7 .i32) : BitVec 32 :=
  Scalar.addi (wCt i x1) (Scalar.subi (wHi i x0) (wLo i x0))

/-! ## The body at a point -/

theorem sound_rest (c : Dev nD) (i : grid0.Coords) (hi : ¬ k0_cond1 i = 1#1)
    (arg2 : Memref sig .tc .smem S8 .i32) (harg2 : arg2.IsWhole) (arg3 : Memref sig .tc .smem S7 .i32) (harg3 : arg3.IsWhole)
    (arg4 : Memref sig .tc .smem S7 .f32) (harg4 : arg4.IsWhole) (arg5 : Memref sig .tc .vmem S2048x4096 .fp8e4m3) (harg5 : arg5.IsWhole)
    (arg6 : Memref sig .tc .vmem S1x256x4096 .f32) (harg6 : arg6.IsWhole) (arg7 : Memref sig .tc .vmem S1x256x4096 .f32) (harg7 : arg7.IsWhole)
    (arg8 : Memref sig .tc .smem S7 .i32) (harg8 : arg8.IsWhole) (arg9 : Memref sig .tc .vmem S768x4096 .fp8e4m3) (harg9 : arg9.IsWhole)
    (x0 : Vec F S8 .i32) (x1 : Vec F S7 .i32) (x2 : Vec F S7 .f32) (x3 : Vec F S2048x4096 .fp8e4m3) (x4 : Vec F S1x256x4096 .f32)
    (y6 : Vec F S7 .i32) (xm : Vec F S768x4096 .fp8e4m3) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare y6 ∗ owns (c : Thread nD τ) arg9 fullShare xm
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out i (keep i x0 x1) (gain i x0 x1) (scl i x2) xm x4)
            ∗ owns (c : Thread nD τ) arg8 fullShare y6 ∗ owns (c : Thread nD τ) arg9 fullShare xm) -∗ K ⟨⟩))
      ⊢ wp frame (wpE (defs₀ (F := F)) Variants.none c none) Set.univ (cc0_hessian_rows i arg2 harg2 arg3 harg3 arg4 harg4 arg5 harg5 arg6 harg6 arg7 harg7 arg8 harg8 arg9 harg9) K := by
  have hchk : ∀ v, k0_chk1 i v := fun v => ⟨fun h => absurd h hi, fun h => absurd h hi⟩
  simp only [cc0_hessian_rows_eq_skeleton]; unfold cc0_hessian_rows_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  sl_exec (disch := first | exact hchk _ | exact hi)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (View.read_writes_eq_canon _ _ (outPieces (keep i _ _) (gain i _ _) (scl i _) (View.ld (View.read _ arg9.view f7) (rl i)) (fun k => View.ld (View.read _ arg9.view f7) (rc k)) _) (out_cover _ _ _ _ _ _)).trans (canon_outPieces i _ _ _ _ _)
  isplitl [H6]
  · iexists f6; isplitr; · ipureintro; rfl
    iexact H6
  iexists f7; isplitr; · ipureintro; rfl
  iexact H7

theorem sound_first (c : Dev nD) (i : grid0.Coords) (hi : k0_cond1 i = 1#1)
    (arg2 : Memref sig .tc .smem S8 .i32) (harg2 : arg2.IsWhole) (arg3 : Memref sig .tc .smem S7 .i32) (harg3 : arg3.IsWhole)
    (arg4 : Memref sig .tc .smem S7 .f32) (harg4 : arg4.IsWhole) (arg5 : Memref sig .tc .vmem S2048x4096 .fp8e4m3) (harg5 : arg5.IsWhole)
    (arg6 : Memref sig .tc .vmem S1x256x4096 .f32) (harg6 : arg6.IsWhole) (arg7 : Memref sig .tc .vmem S1x256x4096 .f32) (harg7 : arg7.IsWhole)
    (arg8 : Memref sig .tc .smem S7 .i32) (harg8 : arg8.IsWhole) (arg9 : Memref sig .tc .vmem S768x4096 .fp8e4m3) (harg9 : arg9.IsWhole)
    (x0 : Vec F S8 .i32) (hchk : k0_chk1 i (wLo i x0)) (x1 : Vec F S7 .i32) (x2 : Vec F S7 .f32) (x3 : Vec F S2048x4096 .fp8e4m3) (x4 : Vec F S1x256x4096 .f32)
    (y6 : Vec F S7 .i32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare y6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out i (keep i x0 x1) (gain i x0 x1) (scl i x2) (XM (wLo i x0) (wHi i x0) (rowsAt x3 (wLo i x0))) x4)
            ∗ (∃ X, ⌜∀ j : S7.Idx, X j = if (j 0).val = k0_off4 i 0 then wNew i x0 x1 else y6 j⌝ ∗ owns (c : Thread nD τ) arg8 fullShare X)
            ∗ owns (c : Thread nD τ) arg9 fullShare (XM (wLo i x0) (wHi i x0) (rowsAt x3 (wLo i x0)))) -∗ K ⟨⟩))
      ⊢ wp frame (wpE (defs₀ (F := F)) Variants.none c none) Set.univ (cc0_hessian_rows i arg2 harg2 arg3 harg3 arg4 harg4 arg5 harg5 arg6 harg6 arg7 harg7 arg8 harg8 arg9 harg9) K := by
  simp only [cc0_hessian_rows_eq_skeleton]; unfold cc0_hessian_rows_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, Hk⟩
  subst hf0 hf1 hf2 hf3 hf4 hf6
  sl_exec (disch := first | exact hchk | exact hi)
  sl_step
  iapply Hk
  have hH : sound_first.sl.H7_32 c i hi arg2 arg5 f0 f3 hchk = stagePieces (wLo i (View.read (Elt F) arg2.view f0)) (wHi i (View.read (Elt F) arg2.view f0))
      (View.ld (Val := Elt F) (e' := .fp8e4m3) (View.read (Elt F) arg5.view f3) (Rect.unit (s := S2048x4096) (k0_off5 (wLo i (View.read (Elt F) arg2.view f0))) S768x4096.size (hchk.2 hi))) := by
    unfold sound_first.sl.H7_32
    rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    have hX : ∀ r : Rect S768x4096, View.readCov arg9.view (sound_first.sl.H7_32 c i hi arg2 arg5 f0 f3 hchk) r.toLoadRect
        = View.ld (XM (wLo i (View.read (Elt F) arg2.view f0)) (wHi i (View.read (Elt F) arg2.view f0))
            (rowsAt (View.read (Elt F) arg5.view f3) (wLo i (View.read (Elt F) arg2.view f0)))) r := fun r => by
      rw [hH, View.readCov_eq_canon_ld _ _ r (stage_cover _ _ _), canon_stagePieces, ld_rows]
    refine (View.read_writes_eq_canon _ _ (outPieces (keep i _ _) (gain i _ _) (scl i _)
      (View.readCov arg9.view (sound_first.sl.H7_32 c i hi arg2 arg5 f0 f3 hchk) (rl i).toLoadRect)
      (fun k => View.readCov arg9.view (sound_first.sl.H7_32 c i hi arg2 arg5 f0 f3 hchk) (rc k).toLoadRect) _) (out_cover _ _ _ _ _ _)).trans ?_
    rw [hX, funext fun k => hX (rc k)]
    exact canon_outPieces i _ _ _ _ _
  isplitl [H6]
  · iexists _; isplitr
    swap
    · iexists _; isplitr
      swap; · iexact H6
      ipureintro; rfl
    ipureintro
    intro j
    exact View.read_writes_cons_cell _ _ _ _ _ _
  iexists _; isplitr
  swap; · iexact H7
  ipureintro
  rw [hH, View.read_writes_eq_canon _ _ _ (stage_cover _ _ _), canon_stagePieces, ld_rows]

end Cert.KernelIdeal.Hand

end
-- ==== Proof.RunIdeal.lean ====
/-
  What the run of the idealized kernel leaves: the proof data of the pipeline, the body's obligation at a point, the launch, and
  the frame.
-/
module

public import proofs.«01_k».proof.Proof.BodyIdeal
public import Idealize.ShloMosaic.Lib.Pipeline.DatRel
public import Idealize.ShloMosaic.Lib.Pipeline.ArrRel
public import Idealize.ShloMosaic.Lib.Claim
public import Idealize.ShloMosaic.Lib.Affine

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid point's coordinates -/

theorem pt_lt (t : Fin grid0.N) : t.val < 112 := Nat.lt_of_lt_of_eq t.isLt N_0
theorem coord0 : ∀ t : Fin grid0.N, (grid0.coords t 0).val = t.val / 16 := by decide +kernel
theorem coord1 : ∀ t : Fin grid0.N, (grid0.coords t 1).val = t.val % 16 := by decide +kernel
theorem cond_iff : ∀ t : Fin grid0.N, k0_cond1 (grid0.coords t) = 1#1 ↔ t.val % 16 = 0 := by decide +kernel
theorem off1_eq : ∀ t : Fin grid0.N, k0_off1 (grid0.coords t) 0 = t.val / 16 := by decide +kernel
theorem off2_eq : ∀ t : Fin grid0.N, k0_off2 (grid0.coords t) 0 = t.val / 16 + 1 := by decide +kernel
theorem off3_eq : ∀ t : Fin grid0.N, k0_off3 (grid0.coords t) 0 = t.val / 16 := by decide +kernel
theorem off4_eq : ∀ t : Fin grid0.N, k0_off4 (grid0.coords t) 0 = t.val / 16 := by decide +kernel
theorem off6_eq : ∀ t : Fin grid0.N, k0_off6 (grid0.coords t) 0 = t.val / 16 := by decide +kernel
theorem off7_eq : ∀ t : Fin grid0.N, k0_off7 (grid0.coords t) = ![0, 256 * (t.val % 16)] := by decide +kernel
theorem idx0_0 : ∀ t : Fin grid0.N, win0_0.index t 0 = 0 := by decide +kernel
theorem idx0_1 : ∀ t : Fin grid0.N, win0_1.index t 0 = 0 := by decide +kernel
theorem idx0_2 : ∀ t : Fin grid0.N, win0_2.index t 0 = 0 := by decide +kernel
theorem idx0_3 : ∀ t : Fin grid0.N, win0_3.index t 0 = 0 ∧ win0_3.index t 1 = 0 := by decide +kernel
theorem idx0_4 : ∀ t : Fin grid0.N, win0_4.index t 0 = t.val / 16 ∧ win0_4.index t 1 = t.val % 16 ∧ win0_4.index t 2 = 0 := by decide +kernel
theorem idx0_5 : ∀ t : Fin grid0.N, win0_5.index t 0 = t.val / 16 ∧ win0_5.index t 1 = t.val % 16 ∧ win0_5.index t 2 = 0 := by decide +kernel

/-! ## The quantities of an expert, from the arrays -/

/-- Where the rows of expert `n` start and end, its count, its scale. -/
def lo (offs : Vec F S8 .i32) (n : ℕ) : BitVec 32 := offs (ix1 ⟨min n 7, by omega⟩)
def hi (offs : Vec F S8 .i32) (n : ℕ) : BitVec 32 := offs (ix1 ⟨min (n + 1) 7, by omega⟩)
def ct (cnts : Vec F S7 .i32) (n : ℕ) : BitVec 32 := cnts (ix1 ⟨min n 6, by omega⟩)
def sc (scs : Vec F S7 .f32) (n : ℕ) : F .f32 := scs (ix1 ⟨min n 6, by omega⟩)
/-- The factors of the update of expert `n`, its staged rows, its new count. -/
def keepE (offs : Vec F S8 .i32) (cnts : Vec F S7 .i32) (n : ℕ) : FVec F S1x1 .f32 := k0_pay42 (lo (F := F) offs n) (hi (F := F) offs n) (ct (F := F) cnts n) (ct (F := F) cnts n)
def gainE (offs : Vec F S8 .i32) (cnts : Vec F S7 .i32) (n : ℕ) : FVec F S1x1 .f32 := k0_pay43 (lo (F := F) offs n) (hi (F := F) offs n) (ct (F := F) cnts n)
def sclE (scs : Vec F S7 .f32) (n : ℕ) : F .f32 := k0_pay44 (sc scs n)
def XME (offs : Vec F S8 .i32) (x : Vec F S2048x4096 .fp8e4m3) (n : ℕ) : Vec F S768x4096 .fp8e4m3 :=
  XM (lo (F := F) offs n) (hi (F := F) offs n) (rowsAt x (lo (F := F) offs n))
def newE (offs : Vec F S8 .i32) (cnts : Vec F S7 .i32) (n : ℕ) : BitVec 32 :=
  Scalar.addi (ct (F := F) cnts n) (Scalar.subi (hi (F := F) offs n) (lo (F := F) offs n))

theorem wLo_eq (t : Fin grid0.N) (x0 : Vec F S8 .i32) : wLo (F := F) (grid0.coords t) x0 = lo (F := F) x0 (t.val / 16) := by
  refine congrArg x0 ?_
  funext a; apply Fin.ext; fin_cases a
  have h := pt_lt t
  show k0_off1 (grid0.coords t) 0 + 1 * 0 = min (t.val / 16) 7
  rw [off1_eq]; omega
theorem wHi_eq (t : Fin grid0.N) (x0 : Vec F S8 .i32) : wHi (F := F) (grid0.coords t) x0 = hi (F := F) x0 (t.val / 16) := by
  refine congrArg x0 ?_
  funext a; apply Fin.ext; fin_cases a
  have h := pt_lt t
  show k0_off2 (grid0.coords t) 0 + 1 * 0 = min (t.val / 16 + 1) 7
  rw [off2_eq]; omega
theorem wCt_eq (t : Fin grid0.N) (x1 : Vec F S7 .i32) : wCt (F := F) (grid0.coords t) x1 = ct (F := F) x1 (t.val / 16) := by
  refine congrArg x1 ?_
  funext a; apply Fin.ext; fin_cases a
  have h := pt_lt t
  show k0_off3 (grid0.coords t) 0 + 1 * 0 = min (t.val / 16) 6
  rw [off3_eq]; omega
theorem wSc_eq (t : Fin grid0.N) (x2 : Vec F S7 .f32) : wSc (F := F) (grid0.coords t) x2 = sc (F := F) x2 (t.val / 16) := by
  refine congrArg x2 ?_
  funext a; apply Fin.ext; fin_cases a
  have h := pt_lt t
  show k0_off6 (grid0.coords t) 0 + 1 * 0 = min (t.val / 16) 6
  rw [off6_eq]; omega
theorem keep_eq (t : Fin grid0.N) (x0 : Vec F S8 .i32) (x1 : Vec F S7 .i32) : keep (F := F) (grid0.coords t) x0 x1 = keepE x0 x1 (t.val / 16) := by
  unfold keep keepE; rw [wLo_eq, wHi_eq, wCt_eq]
theorem gain_eq (t : Fin grid0.N) (x0 : Vec F S8 .i32) (x1 : Vec F S7 .i32) : gain (F := F) (grid0.coords t) x0 x1 = gainE x0 x1 (t.val / 16) := by
  unfold gain gainE; rw [wLo_eq, wHi_eq, wCt_eq]
theorem scl_eq (t : Fin grid0.N) (x2 : Vec F S7 .f32) : scl (grid0.coords t) x2 = sclE x2 (t.val / 16) := by
  unfold scl sclE; rw [wSc_eq]
theorem wNew_eq (t : Fin grid0.N) (x0 : Vec F S8 .i32) (x1 : Vec F S7 .i32) : wNew (F := F) (grid0.coords t) x0 x1 = newE (F := F) x0 x1 (t.val / 16) := by
  unfold wNew newE; rw [wLo_eq, wHi_eq, wCt_eq]

/-! ## The blocks of the inputs -/

theorem iblk0_eq (c : Dev nD) (t : Fin cfg0.N) : iblk m c 0 t = V m c main_arg2 := by
  funext j
  show V m c main_arg2 (((cfg0.win 0).blk t).view.emb j) = V m c main_arg2 j
  refine congrArg _ ?_
  funext a; apply Fin.ext; fin_cases a
  show win0_0.index t 0 * 8 + 1 * (j 0).val = (j 0).val
  rw [idx0_0]; omega
theorem iblk1_eq (c : Dev nD) (t : Fin cfg0.N) : iblk m c 1 t = V m c main_arg4 := by
  funext j
  show V m c main_arg4 (((cfg0.win 1).blk t).view.emb j) = V m c main_arg4 j
  refine congrArg _ ?_
  funext a; apply Fin.ext; fin_cases a
  show win0_1.index t 0 * 7 + 1 * (j 0).val = (j 0).val
  rw [idx0_1]; omega
theorem iblk2_eq (c : Dev nD) (t : Fin cfg0.N) : iblk m c 2 t = V m c main_arg1 := by
  funext j
  show V m c main_arg1 (((cfg0.win 2).blk t).view.emb j) = V m c main_arg1 j
  refine congrArg _ ?_
  funext a; apply Fin.ext; fin_cases a
  show win0_2.index t 0 * 7 + 1 * (j 0).val = (j 0).val
  rw [idx0_2]; omega
theorem iblk3_eq (c : Dev nD) (t : Fin cfg0.N) : iblk m c 3 t = V m c main_arg0 := by
  funext j
  show V m c main_arg0 (((cfg0.win 3).blk t).view.emb j) = V m c main_arg0 j
  refine congrArg _ ?_
  funext a; apply Fin.ext; fin_cases a
  · show win0_3.index t 0 * 2048 + 1 * (j 0).val = (j 0).val
    rw [(idx0_3 t).1]; omega
  · show win0_3.index t 1 * 4096 + 1 * (j 1).val = (j 1).val
    rw [(idx0_3 t).2]; omega

/-! ## The proof data -/

/-- What the point leaves in the output's block, from the arrays. -/
def outAt (c : Dev nD) (t : Fin cfg0.N) : Vec F S1x256x4096 .f32 :=
  out (grid0.coords t) (keepE (V m c main_arg2) (V m c main_arg4) (t.val / 16)) (gainE (V m c main_arg2) (V m c main_arg4) (t.val / 16))
    (sclE (V m c main_arg1) (t.val / 16)) (XME (V m c main_arg2) (V m c main_arg0) (t.val / 16)) (iblk m c 4 t)

/-- The scratch and the generator register before point `t`: after an expert's first point the scratch holds its rows. -/
def inv (c : Dev nD) (t : Fin (cfg0.N + 1)) : sProp 𝕄 :=
  iprop((∃ d, ⌜t.val % 16 ≠ 0 → d = XME (V m c main_arg2) (V m c main_arg0) (t.val / 16)⌝ ∗ owns (c : Thread nD τ) (Memref.whole cc0_scratch0) fullShare d)
    ∗ ∃ r, prngReg c r)

/-- The windows whose contents are followed by a relation: the counts'. -/
def fgt0 : Fin 7 → Bool := fun | ⟨6, _⟩ => true | _ => false

/-- The proof data: the arrays as the region finds them; every input's buffer at its block, the output's at `outAt`, the counts'
    followed by the relation `Rl0`; the invariant `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => Pipeline.Dat.unnamed (cfg := cfg0) 6 t
  Φ t := inv m c t
  q _ := fullShare
  owed _ := 0

/-- The new counts up to the point's expert are stored. -/
def cntRel (c : Dev nD) (t : Fin cfg0.N) (X : Vec F S7 .i32) : Prop :=
  ∀ j : S7.Idx, (j 0).val ≤ t.val / 16 → X j = newE (F := F) (V m c main_arg2) (V m c main_arg4) (j 0).val

def Rl0 (c : Dev nD) : (w : Fin cfg0.W) → Fin cfg0.N → ((cfg0.win w).block.Idx → Elt F (cfg0.win w).elt) → Prop
  | ⟨6, _⟩ => fun t X => cntRel m c t X
  | _ => fun _ _ => True

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the counts' buffer may hold before a point that is not the first: the relation at the point before. -/
theorem finds6 (c : Dev nD) (t : Fin cfg0.N) (ht : t.val ≠ 0) (Y : Vec F S7 .i32)
    (h : ((dats m 0 c).toRRel fgt0 (Rl0 m c)).Finds 6 t Y) : ∃ t' : Fin cfg0.N, t'.val + 1 = t.val ∧ cntRel m c t' Y := by
  have hN : t.val < 112 := pt_lt t
  have hf : (cfg0.win 6).fetch t = false := rfl
  rcases (Pipeline.RDat.finds_of_pos _ hf ht Y).mp h with h | h
  · exfalso
    have h' := (flush0_6 ⟨t.val - 1, by have := t.isLt; omega⟩).mp h
    simp only at h'
    omega
  · exact ⟨⟨t.val - 1, by have := t.isLt; omega⟩, by show t.val - 1 + 1 = t.val; omega, Dat.toRRel_leaves (dats m 0 c) (show fgt0 6 = true from rfl) h⟩

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜((dats m 0 c).toRRel fgt0 (Rl0 m c)).Finds 6 t Y⌝ ∗ owns (c : Thread nD τ) (st0_6 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜Rl0 m c 6 t X⌝ ∗ owns (c : Thread nD τ) (st0_6 t) fullShare X))

/-- The loads of the rows stay inside the array. -/
def Inside : Prop := ∀ (c : Dev nD) (t : Fin cfg0.N), k0_chk1 (grid0.coords t) (lo (F := F) (V m c main_arg2) (t.val / 16))

/-- The body at any point. -/
theorem sound_body (hin : Inside m) (c : Dev nD) (t : Fin cfg0.N) :
    bodyPre m c t ⊢ wp frame (wpE (defs₀ (F := F)) Variants.none c none) Set.univ (bodyAt0 t) (fun _ => bodyPost m c t) := by
  have hN : t.val < 112 := pt_lt t
  unfold bodyPre bodyPost bodyAt0
  simp only [before0_0, before0_1, before0_2, before0_3, before0_4]
  rw [show (dats m 0 c).Φ t.succ = inv m c t.succ from rfl, show (dats m 0 c).Φ t.castSucc = inv m c t.castSucc from rfl,
    show (dats m 0 c).owesAt () t.succ = (dats m 0 c).owesAt () t.castSucc from rfl,
    after0_0, after0_1, after0_2, after0_3, after0_4, after0_5]
  unfold inv
  by_cases h0 : t.val % 16 = 0
  · iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%Y, %hY, H6⟩⟩
    have hchk : k0_chk1 (grid0.coords t) (wLo (F := F) (grid0.coords t) (iblk m c 0 t)) := by
      rw [wLo_eq, iblk0_eq]; exact hin c t
    iapply (sound_first c (grid0.coords t) ((cond_iff t).mpr h0) _ _ _ _ _ _ _ _ _ _ _ _ _ _ _ _
      (iblk m c 0 t) hchk (iblk m c 1 t) (iblk m c 2 t) (iblk m c 3 t) (iblk m c 4 t) Y _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexists _; iexact HS
    rw [keep_eq, gain_eq, scl_eq, wLo_eq, wHi_eq, wNew_eq]
    iintro ⟨H0, H1, H2, H3, H4, H5, ⟨%X, %hX, H6⟩, HS⟩
    isplitl [HS Hg]
    · isplitl [HS]
      · iexists _; isplitr; swap; · iexact HS
        ipureintro
        intro _
        rw [iblk0_eq, iblk3_eq]
        show _ = XME _ _ ((t.val + 1) / 16)
        rw [show (t.val + 1) / 16 = t.val / 16 by omega]; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold outAt XME
      rw [iblk0_eq, iblk1_eq, iblk2_eq, iblk3_eq]; iexact H5
    iexists X; isplitr; swap; · iexact H6
    ipureintro
    intro j hj
    rw [hX j, off4_eq, iblk0_eq, iblk1_eq]
    by_cases hje : (j 0).val = t.val / 16
    · rw [if_pos hje, hje]
    · rw [if_neg hje]
      obtain ⟨t', ht', hR⟩ := finds6 m c t (by omega) Y hY
      exact hR j (by omega)
  · iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%Y, %hY, H6⟩⟩
    obtain rfl := hd h0
    iapply (sound_rest c (grid0.coords t) (fun h => h0 ((cond_iff t).mp h)) _ _ _ _ _ _ _ _ _ _ _ _ _ _ _ _
      (iblk m c 0 t) (iblk m c 1 t) (iblk m c 2 t) (iblk m c 3 t) (iblk m c 4 t) Y _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    rw [keep_eq, gain_eq, scl_eq]
    iintro ⟨H0, H1, H2, H3, H4, H5, H6, HS⟩
    isplitl [HS Hg]
    · isplitl [HS]
      · iexists _; isplitr; swap; · iexact HS
        ipureintro
        intro (h1 : (t.val + 1) % 16 ≠ 0)
        show XME _ _ (t.val / 16) = XME _ _ ((t.val + 1) / 16)
        rw [show (t.val + 1) / 16 = t.val / 16 by omega]
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold outAt
      rw [iblk0_eq, iblk1_eq, iblk2_eq]; iexact H5
    iexists Y; isplitr; swap; · iexact H6
    ipureintro
    intro j hj
    obtain ⟨t', ht', hR⟩ := finds6 m c t (by omega) Y hY
    exact hR j (by omega)

theorem defs₀_row (t : Fin cfg0.N) : defs₀ (F := F) .tc cfg0.body (cfg0.bodyArgs t (cfg0.slots t)) = bodyAt0 t := by
  unfold defs₀; rw [Defs.onTc_tc]

theorem body_obligation (hin : Inside m) (c : Dev nD) :
    BodyObligationRel (dats (F := F) m 0 c) (defs₀ (F := F)) Variants.none () Set.univ fgt0 (Rl0 m c) := fun t => by
  rw [bigSep_W0, bigSep_W0, defs₀_row]
  exact triple_restated (sound_body m hin c t) rfl .rfl fun _ => .rfl

/-! ## The launch -/

/-- The proof data with the counts followed by their relation. -/
abbrev rdats (c : Dev nD) := (dats (F := F) m 0 c).toRRel fgt0 (Rl0 m c)

theorem inv_in (c : Dev nD) : (Pipeline.ΦA spec0 c : sProp 𝕄) ⊢ inv m c 0 := by
  unfold inv Pipeline.ΦA
  rw [scopedRest0_eq]
  simp only [owns_whole]
  iintro ⟨⟨%f, H⟩, Hg⟩
  isplitl [H]
  · iexists f
    isplitr
    · ipureintro; intro h; exact absurd (Nat.zero_mod 16) h
    iexact H
  iexact Hg

theorem inv_out (c : Dev nD) : inv m c (Fin.last cfg0.N) ⊢ (Pipeline.ΦA spec0 c : sProp 𝕄) := by
  unfold inv Pipeline.ΦA
  rw [scopedRest0_eq]
  simp only [owns_whole]
  iintro ⟨⟨%d, -, H⟩, Hg⟩
  isplitl [H]
  · iexists d; iexact H
  iexact Hg

-- the launch theorem's implicit arguments are found by unifying its conclusion with this statement, which takes unfolding plain
-- definitions in a metavariable's type
set_option backward.isDefEq.respectTransparency.types false in
/-- The launch: @main terminates, every array of the pipeline ends at what the proof data say of it, every counter at zero. -/
theorem run_main (hin : Inside m) : θ_run defs (onTc (τ := τ) (main (F := F))) (s₀ m ρ)
    (fun r => Pipeline.RDat.FramePost (cfgs 0) (rdats m) (V m) r ∧ r.2.sem = fun _ => 0) :=
  Pipeline.RDat.θ_run_frame_track (Q' := _) cfgs (0 : Fin 1) launch0 defs₀ Variants.none (rdats m) m ρ main
    (hbody := fun c => (body_obligation m hin c).toRRel) (hshare := fun c => (dats m 0 c).share_full fun _ => rfl)
    (howed := fun _ _ => rfl) (V := V m) (hmain := hmain m Variants.none) (hA := A_eq m)
    (hin := inv_in m) (hout := inv_out m)

/-- An argument's array ends as it was launched. -/
theorem final_args {r : PUnit × MemSt nD τ sig (Elt F)} (h : Pipeline.RDat.FramePost (cfgs 0) (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.arr_in c 3 rfl).trans (A_eq m c 3), (h.arr_in c 2 rfl).trans (A_eq m c 2), (h.arr_in c 0 rfl).trans (A_eq m c 0),
    (h.arr_in c 4 rfl).trans (A_eq m c 4), (h.arr_in c 1 rfl).trans (A_eq m c 1)⟩

/-- The frame, where the loads of the rows stay inside the array: @main terminates, the arguments end unchanged, every
    counter at zero. -/
theorem frame (hin : Inside m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨final_args m h.1, h.2⟩) (run_main m ρ hin)

/-! ## The loads stay inside the array -/

open Affine in
/-- The word the rows are loaded from, for a start that is not negative: the start rounded down to a multiple of 32, at
    most 1280. -/
theorem mult_int (v : BitVec 32) (hv : 0 ≤ v.toInt) : IsInt (k0_mult1 v) (min (v.toInt / 32 * 32) 1280) := by
  have hw := word v
  have hr := word_range v
  have w0 : IsInt 0#32 0 := ofNat 0 (by omega)
  have w32 : IsInt 32#32 32 := ofNat 32 (by omega)
  have w1280 : IsInt 1280#32 1280 := ofNat 1280 (by omega)
  have hd : IsInt (Scalar.divsi v 32#32) (v.toInt / 32) := divsi hw w32 (by omega)
  have hs : ∀ a : BitVec 32, IsInt (Scalar.select (Scalar.andi
      (Scalar.cmpi .ne (Scalar.subi (Scalar.extui (Scalar.cmpi .sgt v 0#32)) (Scalar.extui (Scalar.cmpi .slt v 0#32)))
        (Scalar.subi (Scalar.extui (Scalar.cmpi .sgt 32#32 0#32)) (Scalar.extui (Scalar.cmpi .slt 32#32 0#32))))
      (Scalar.cmpi .ne (Scalar.remsi v 32#32) 0#32)) a (Scalar.divsi v 32#32)) (v.toInt / 32) := by
    intro a
    refine select_fails ?_ (word a) hd rfl
    by_cases h0 : v.toInt = 0
    · exact andi_fails_right trivial (ne_fails (remsi hw w32 (e := 0) (by omega)) w0 rfl)
    · refine andi_fails_left (ne_fails (ea := 1) (eb := 1) ?_ ?_ rfl) trivial
      · exact subi (extui_holds (sgt_holds hw w0 (by omega)) rfl) (extui_fails (slt_fails hw w0 (by omega)) rfl) (by omega)
      · exact subi (extui_holds (sgt_holds w32 w0 (by omega)) rfl) (extui_fails (slt_fails w32 w0 (by omega)) rfl) (by omega)
  exact minsi (muli (hs _) w32 (e := v.toInt / 32 * 32) (by omega)) w1280 rfl

/-- A start of the rows that is not negative puts the loaded window inside the array. -/
theorem chk_of_nonneg (i : grid0.Coords) (v : BitVec 32) (hv : 0 ≤ v.toInt) : k0_chk1 i v := by
  have key : 32 ∣ (k0_mult1 v).toNat ∧ (k0_mult1 v).toNat ≤ 1280 := by
    have h := mult_int v hv
    refine ⟨Affine.dvd_of h 32 ⟨?_, by omega⟩, ?_⟩
    · rcases Int.le_total (v.toInt / 32 * 32) 1280 with h' | h'
      · rw [min_eq_left h']; exact Dvd.intro_left _ rfl
      · rw [min_eq_right h']; decide
    · have := Affine.toNat_of h (by omega)
      omega
  refine ⟨fun _ => key.1, fun _ a => ?_⟩
  fin_cases a
  · show (k0_mult1 v).toNat + 768 ≤ 2048; omega
  · show 0 + 4096 ≤ 4096; omega

/-- The loads stay inside the array where no expert's start is negative. -/
theorem inside_of (h : ∀ (c : Dev nD) (j : S8.Idx), (j 0).val < 7 → 0 ≤ (BitVec.toInt (V m c main_arg2 j))) : Inside m := fun c t =>
  chk_of_nonneg _ _ (h c _ (by have := pt_lt t; show min (t.val / 16) 7 < 7; omega))

end Cert.KernelIdeal.Hand

end
-- ==== Proof.Sums.lean ====
/-
  What both programs compute, in one formula: an element of the gram matrix as a sum over all rows, an element of the updated matrix
  from it; and that a sum over a window of rows is the sum over all rows when the rows outside the window contribute nothing.
-/
module

public import Idealize.ShloMosaic.Lib.ValueIdx
public import Idealize.ShloMosaic.PureOps.Ideal.Laws
public import Mathlib.Algebra.BigOperators.Fin
public import Mathlib.Algebra.BigOperators.Intervals

@[expose] public section

noncomputable section

namespace Cert.Sums

open Idealize.ShloMosaic
open Idealize.ShloMosaic.ValueIdx

/-- Summing `f` over the `n` indices from `b` gives the sum over all `N`, when `f` vanishes outside that window. -/
theorem sum_window {M : Type*} [AddCommMonoid M] (n b N : ℕ) (hb : b + n ≤ N) (f : ℕ → M)
    (h0 : ∀ a, a < N → ¬ (b ≤ a ∧ a < b + n) → f a = 0) : ∑ k : Fin n, f (b + k.val) = ∑ a : Fin N, f a.val := by
  rw [Fin.sum_univ_eq_sum_range (fun k => f (b + k)) n, Fin.sum_univ_eq_sum_range f N, Finset.range_eq_Ico, Finset.range_eq_Ico,
    Finset.sum_Ico_add f 0 n b]
  refine Finset.sum_subset ?_ ?_
  · intro a ha
    simp only [Finset.mem_Ico] at ha ⊢
    omega
  · intro a ha hn
    simp only [Finset.mem_Ico] at ha hn
    exact h0 a ha.2 (by omega)

/-- Row `a` is one of the expert's: between its start and its end, and within 585 rows of where its window starts. -/
def rowOk (lo hi : BitVec 32) (a : ℕ) : Prop := lo.toInt ≤ a ∧ (a : Int) < hi.toInt ∧ (a : Int) < min lo.toInt 1463 + 585

instance (lo hi : BitVec 32) (a : ℕ) : Decidable (rowOk lo hi a) := by unfold rowOk; infer_instance

/-- The element of `x` at row `a` (the last row, past the end). -/
def row (x : (⟨2, ![2048, 4096]⟩ : Shape).Idx → EReal) (a : ℕ) (r : Fin 4096) : EReal := x (ix2 ⟨min a 2047, by omega⟩ r)

/-- The expert's element of `x` at row `a`: zero off its rows. -/
def kept (x : (⟨2, ![2048, 4096]⟩ : Shape).Idx → EReal) (lo hi : BitVec 32) (a : ℕ) (r : Fin 4096) : EReal :=
  if rowOk lo hi a then row x a r else 0

/-- An element of the expert's gram matrix: the sum over all rows. -/
def gramAt (x : (⟨2, ![2048, 4096]⟩ : Shape).Idx → EReal) (lo hi : BitVec 32) (r q : Fin 4096) : EReal :=
  ∑ a : Fin 2048, kept x lo hi a.val r * kept x lo hi a.val q

/-- The gram matrix is symmetric. -/
theorem gramAt_comm (x : (⟨2, ![2048, 4096]⟩ : Shape).Idx → EReal) (lo hi : BitVec 32) (r q : Fin 4096) :
    gramAt x lo hi r q = gramAt x lo hi q r := Finset.sum_congr rfl fun _ _ => mul_comm _ _

/-- A sum over a window that holds all the expert's rows is the gram matrix's element. -/
theorem gramAt_window (x : (⟨2, ![2048, 4096]⟩ : Shape).Idx → EReal) (lo hi : BitVec 32) (r q : Fin 4096) (n b : ℕ) (hb : b + n ≤ 2048)
    (h : ∀ a, rowOk lo hi a → a < 2048 → b ≤ a ∧ a < b + n) :
    ∑ k : Fin n, kept x lo hi (b + k.val) r * kept x lo hi (b + k.val) q = gramAt x lo hi r q := by
  refine sum_window n b 2048 hb (fun a => kept x lo hi a r * kept x lo hi a q) fun a ha hn => ?_
  have : ¬ rowOk lo hi a := fun h' => hn (h a h' ha)
  simp only [kept, if_neg this, mul_zero]

/-- The expert's new count. -/
def countOf (lo hi ct : BitVec 32) : BitVec 32 := Scalar.addi ct (Scalar.subi hi lo)

/-- An element of the expert's new matrix from the old one `h`, the words, the scale `s` and the gram matrix's element `g`. -/
def value (h : EReal) (lo hi ct : BitVec 32) (s g : EReal) : EReal :=
  h * Ideal.div (FloatOps.sitofp (F := Ideal) .f32 ct) (FloatOps.sitofp (F := Ideal) .f32 (countOf lo hi ct))
    + Ideal.div (Ideal.ofBits .f32 0x40000000#32) (FloatOps.sitofp (F := Ideal) .f32 (countOf lo hi ct)) * (g * (s * s))

end Cert.Sums

end
-- ==== Proof.ValueIdeal.lean ====
/-
  The idealized kernel's two results over the extended reals, element by element.
-/
module

public import proofs.«01_k».proof.Proof.RunIdeal
public import proofs.«01_k».proof.Proof.Sums
public import Idealize.ShloMosaic.Lib.ValueIdx
public import Idealize.ShloMosaic.Lib.ValueLayout
public import Idealize.ShloMosaic.Lib.DynamicIndex
public import Idealize.ShloMosaic.Lib.IdealHost
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen Cert.Sums
open Idealize.ShloMosaic hiding ix0 ix1 ix2 ix3
open Idealize.ShloMosaic.TcCoe Idealize.ShloMosaic.Tactic Idealize.SL.Sem
open Idealize.ShloMosaic.ValueIdx
open Idealize.ShloMosaic.Pipeline (Dat Cfg Window)

/-! ## One block of the update -/

/-- An element of a column block. -/
theorem blk_apply (kp gn : FVec Ideal S1x1 .f32) (s2 : EReal) (lhs rhs : Vec Ideal S768x256 .fp8e4m3) (h : Vec Ideal S1x256x256 .f32) (a b : Fin 256) :
    blk kp gn s2 lhs rhs h (ix3 0 a b)
      = h (ix3 0 a b) * kp (ix2 0 0) + gn (ix2 0 0) * ((∑ k : Fin 768, lhs (ix2 k a) * rhs (ix2 k b)) * s2) := by
  unfold blk k0_pay47
  refine (shapeCast_ab_1ab_apply _ shapeCasts_S256x256_S1x256x256 0 a b).trans ?_
  have h1 : ∀ x : FVec Ideal S1x1 .f32, broadcastTo S256x256 x broadcasts_S1x1_S256x256 (ix2 a b) = x (ix2 0 0) := fun x =>
    broadcastTo_apply x _ _ _ fun a => by fin_cases a <;> rfl
  have h2 : FloatOps.matmul (F := Ideal) (φ₁ := .fp8e4m3) (φ₂ := .fp8e4m3) dot_S768x256_S768x256_S256x256_0_0_1_1_n_n none lhs rhs (constant S256x256 .f32 0x00000000#32) (ix2 a b)
      = ∑ k : Fin 768, lhs (ix2 k a) * rhs (ix2 k b) := by
    rw [Ideal.matmul_constant_zero_apply, DotDims.sum_contr₁ _ (a := 0) rfl (K := 768) rfl]
    refine Finset.sum_congr rfl fun k _ => ?_
    refine congrArg₂ (· * ·) (congrArg lhs (funext fun a => Fin.ext ?_)) (congrArg rhs (funext fun a => Fin.ext ?_))
    · fin_cases a <;> rfl
    · fin_cases a <;> rfl
  have h3 : shapeCast S256x256 h shapeCasts_S1x256x256_S256x256 (ix2 a b) = h (ix3 0 a b) := shapeCast_1ab_ab_apply h _ a b
  rw [← h1 kp, ← h1 gn, ← h2, ← h3]
  rfl

/-! ## The staged rows -/

open Affine in
theorem toInt_of {x : BitVec 32} {e : Int} (h : IsInt x e) : x.toInt = e := by unfold IsInt at h; exact h

/-- The first row loaded for a start. -/
def from' (lo : BitVec 32) : ℕ := (k0_mult1 lo).toNat

theorem from_eq (lo : BitVec 32) (h : 0 ≤ lo.toInt) : (from' lo : Int) = min (lo.toInt / 32 * 32) 1280 :=
  Affine.toNat_of (mult_int lo h) (by omega)

open Affine in
/-- The mask's bit: the row is one of the expert's. -/
theorem mask_iff (lo hi : BitVec 32) (h : 0 ≤ lo.toInt) (k : Fin 768) (n : Fin 128) :
    k0_pay2 (F := Ideal) lo hi (ix2 k n) = 1#1 ↔ rowOk lo hi (from' lo + k.val) := by
  have hk := k.isLt
  have hf := from_eq lo h
  have hb := mult_int lo h
  have hi' : iota .tc S768x128 32 [0] iota_S768x128_d0_w32 (ix2 k n) = BitVec.ofNat 32 k.val := by
    rw [iota_apply]
    show BitVec.ofNat 32 (0 * 768 + k.val) = _
    rw [Nat.zero_mul, Nat.zero_add]
  have hr : IsInt (Scalar.addi (k0_mult1 lo) (BitVec.ofNat 32 k.val)) (from' lo + k.val) :=
    addi hb (ofNat (e := k.val) k.val (by omega)) (by omega)
  have hl : IsInt (Scalar.minsi hi (Scalar.addi (Scalar.minsi lo 1463#32) 585#32)) (min hi.toInt (min lo.toInt 1463 + 585)) :=
    minsi (word hi) (addi (minsi (word lo) (ofNat (e := 1463) 1463 (by omega)) rfl) (ofNat (e := 585) 585 (by omega))
      (e := min lo.toInt 1463 + 585) (by omega)) rfl
  show IntOp.andi (IntOp.cmpi .sge (Scalar.addi (k0_mult1 lo) (iota .tc S768x128 32 [0] iota_S768x128_d0_w32 (ix2 k n))) lo)
    (IntOp.cmpi .slt (Scalar.addi (k0_mult1 lo) (iota .tc S768x128 32 [0] iota_S768x128_d0_w32 (ix2 k n)))
      (Scalar.minsi hi (Scalar.addi (Scalar.minsi lo 1463#32) 585#32))) = 1#1 ↔ _
  rw [hi', IntOp.andi_eq_one, IntOp.cmpi_sge, IntOp.cmpi_slt, toInt_of hr, toInt_of hl]
  unfold rowOk
  push_cast
  omega

/-- A staged element: the expert's element of the row. -/
theorem XM_apply (x : Vec Ideal S2048x4096 .fp8e4m3) (lo hi : BitVec 32) (h : 0 ≤ lo.toInt) (k : Fin 768) (r : Fin 4096) :
    XM lo hi (rowsAt x lo) (ix2 k r) = kept x lo hi (from' lo + k.val) r := by
  have hm := mask_iff lo hi h k ⟨r.val % 128, Nat.mod_lt _ (by omega)⟩
  show Scalar.select (k0_pay2 (F := Ideal) lo hi (ix2 k ⟨r.val % 128, _⟩)) (row x (from' lo + k.val) r) (Ideal.ofBits .fp8e4m3 0x00#8) = _
  have hz : Ideal.ofBits .fp8e4m3 0x00#8 = 0 := by simp [Ideal.ofBits, Ideal.e4m3fn]
  rw [hz]
  unfold kept Scalar.select
  by_cases h1 : rowOk lo hi (from' lo + k.val)
  · rw [if_pos h1]; exact if_pos (hm.mpr h1)
  · rw [if_neg h1]; exact if_neg (fun h' => h1 (hm.mp h'))

/-- The product of two staged columns, summed over the staged rows: the gram matrix's element. -/
theorem XM_gram (x : Vec Ideal S2048x4096 .fp8e4m3) (lo hi : BitVec 32) (h : 0 ≤ lo.toInt) (r q : Fin 4096) :
    (∑ k : Fin 768, XM lo hi (rowsAt x lo) (ix2 k r) * XM lo hi (rowsAt x lo) (ix2 k q) : EReal) = gramAt x lo hi r q := by
  simp only [XM_apply x lo hi h]
  have hf := from_eq lo h
  refine gramAt_window _ _ _ r q 768 _ (by omega) fun a ha _ => ?_
  obtain ⟨h1, h2, h3⟩ := ha
  omega

/-! ## The results -/

variable (m : (ℓ : Loc nD τ sig) → Buf (Elt Ideal) ℓ) (ρ : Dev nD → PrngReg)

/-- The arguments as arrays: activations, scales, offsets, old matrices, old counts. -/
abbrev argX (c : Dev nD) : Vec Ideal S2048x4096 .fp8e4m3 := m ((c.tc : Thread nD τ).loc main_arg0)
abbrev argS (c : Dev nD) : Vec Ideal S7 .f32 := m ((c.tc : Thread nD τ).loc main_arg1)
abbrev argO (c : Dev nD) : Vec Ideal S8 .i32 := m ((c.tc : Thread nD τ).loc main_arg2)
abbrev argH (c : Dev nD) : Vec Ideal S7x4096x4096 .f32 := m ((c.tc : Thread nD τ).loc main_arg3)
abbrev argC (c : Dev nD) : Vec Ideal S7 .i32 := m ((c.tc : Thread nD τ).loc main_arg4)

theorem lo_fin (x : Vec Ideal S8 .i32) (e : Fin 7) : lo (F := Ideal) x e.val = x (ix1 ⟨e.val, by omega⟩) :=
  congrArg x (congrArg ix1 (Fin.ext (by show min e.val 7 = e.val; omega)))
theorem hi_fin (x : Vec Ideal S8 .i32) (e : Fin 7) : hi (F := Ideal) x e.val = x (ix1 ⟨e.val + 1, by omega⟩) :=
  congrArg x (congrArg ix1 (Fin.ext (by show min (e.val + 1) 7 = e.val + 1; omega)))
theorem ct_fin (x : Vec Ideal S7 .i32) (e : Fin 7) : ct (F := Ideal) x e.val = x (ix1 e) :=
  congrArg x (congrArg ix1 (Fin.ext (by show min e.val 6 = e.val; omega)))
theorem sc_fin (x : Vec Ideal S7 .f32) (e : Fin 7) : sc x e.val = x (ix1 e) :=
  congrArg x (congrArg ix1 (Fin.ext (by show min e.val 6 = e.val; omega)))

/-- The first result. -/
def res0 (c : Dev nD) : Vec Ideal S7x4096x4096 .f32 := fun y =>
  value (argH m c y) (lo (F := Ideal) (argO m c) (y 0).val) (hi (F := Ideal) (argO m c) (y 0).val) (ct (F := Ideal) (argC m c) (y 0).val) (sc (argS m c) (y 0).val)
    (gramAt (argX m c) (lo (F := Ideal) (argO m c) (y 0).val) (hi (F := Ideal) (argO m c) (y 0).val) (y 1) (y 2))

/-- The second result. -/
def res1 (c : Dev nD) : Vec Ideal S7 .i32 := fun y =>
  countOf (lo (F := Ideal) (argO m c) (y 0).val) (hi (F := Ideal) (argO m c) (y 0).val) (ct (F := Ideal) (argC m c) (y 0).val)

theorem res0_apply (c : Dev nD) (e : Fin 7) (r q : Fin 4096) : res0 m c (ix3 e r q)
    = value (argH m c (ix3 e r q)) (argO m c (ix1 ⟨e.val, by omega⟩)) (argO m c (ix1 ⟨e.val + 1, by omega⟩)) (argC m c (ix1 e)) (argS m c (ix1 e))
        (gramAt (argX m c) (argO m c (ix1 ⟨e.val, by omega⟩)) (argO m c (ix1 ⟨e.val + 1, by omega⟩)) r q) := by
  rw [← lo_fin (argO m c) e, ← hi_fin (argO m c) e, ← ct_fin (argC m c) e, ← sc_fin (argS m c) e]
  rfl

theorem res1_apply (c : Dev nD) (e : Fin 7) : res1 m c (ix1 e)
    = countOf (argO m c (ix1 ⟨e.val, by omega⟩)) (argO m c (ix1 ⟨e.val + 1, by omega⟩)) (argC m c (ix1 e)) := by
  rw [← lo_fin (argO m c) e, ← hi_fin (argO m c) e, ← ct_fin (argC m c) e]
  rfl

/-- No expert's start is negative. -/
def Starts : Prop := ∀ (c : Dev nD) (j : S8.Idx), (j 0).val < 7 → 0 ≤ (BitVec.toInt (argO m c j))

theorem lo_nonneg (h : Starts m) (c : Dev nD) {n : ℕ} (hn : n < 7) : 0 ≤ (lo (F := Ideal) (argO m c) n).toInt :=
  h c _ (by show min n 7 < 7; omega)

theorem argIdx_val (t : Fin cfg0.N) (y : S1x256x4096.Idx) : ((((cfg0.win 5).blk t).view.emb y 0).val = t.val / 16
    ∧ (((cfg0.win 5).blk t).view.emb y 1).val = 256 * (t.val % 16) + (y 1).val ∧ (((cfg0.win 5).blk t).view.emb y 2).val = (y 2).val) := by
  have hy0 : (y 0).val < 1 := (y 0).isLt
  obtain ⟨h0, h1, h2⟩ := idx0_5 t
  refine ⟨?_, ?_, ?_⟩
  · show win0_5.index t 0 * 1 + 1 * (y 0).val = _
    rw [h0]; omega
  · show win0_5.index t 1 * 256 + 1 * (y 1).val = _
    rw [h1]; omega
  · show win0_5.index t 2 * 4096 + 1 * (y 2).val = _
    rw [h2]; omega

/-- The old matrices' block at a point sits where the new matrices' does. -/
theorem iblk4_apply (c : Dev nD) (t : Fin cfg0.N) (y : S1x256x4096.Idx) : iblk m c 4 t y = argH m c (((cfg0.win 5).blk t).view.emb y) := by
  show argH m c (((cfg0.win 4).blk t).view.emb y) = _
  refine congrArg _ (funext fun a => Fin.ext ?_)
  obtain ⟨h0, h1, h2⟩ := idx0_5 t
  obtain ⟨g0, g1, g2⟩ := idx0_4 t
  fin_cases a
  · show win0_4.index t 0 * 1 + 1 * (y 0).val = win0_5.index t 0 * 1 + 1 * (y 0).val
    rw [h0, g0]
  · show win0_4.index t 1 * 256 + 1 * (y 1).val = win0_5.index t 1 * 256 + 1 * (y 1).val
    rw [h1, g1]
  · show win0_4.index t 2 * 4096 + 1 * (y 2).val = win0_5.index t 2 * 4096 + 1 * (y 2).val
    rw [h2, g2]

/-- What a point leaves in the output's block, element by element: the first result there. -/
theorem outAt_apply (h : Starts m) (c : Dev nD) (t : Fin cfg0.N) (y : S1x256x4096.Idx) :
    outAt m c t y = res0 m c (((cfg0.win 5).blk t).view.emb y) := by
  have ht := pt_lt t
  have hy0 : (y 0).val < 1 := (y 0).isLt
  have hy1 : (y 1).val < 256 := (y 1).isLt
  have hy2 : (y 2).val < 4096 := (y 2).isLt
  obtain ⟨e0, e1, e2⟩ := argIdx_val t y
  have hlo := lo_nonneg m h c (n := t.val / 16) (by omega)
  unfold outAt out
  refine (blk_apply _ _ _ _ _ _ (y 1) ⟨(y 2).val % 256, Nat.mod_lt _ (by omega)⟩).trans ?_
  have hl : ∀ k : Fin 768, View.ld (XME (V m c main_arg2) (V m c main_arg0) (t.val / 16)) (rl (grid0.coords t)) (ix2 k (y 1))
      = XM (lo (F := Ideal) (argO m c) (t.val / 16)) (hi (F := Ideal) (argO m c) (t.val / 16)) (rowsAt (argX m c) (lo (F := Ideal) (argO m c) (t.val / 16)))
          (ix2 k (((cfg0.win 5).blk t).view.emb y 1)) := fun k => by
    refine congrArg (XME (V m c main_arg2) (V m c main_arg0) (t.val / 16)) (funext fun a => Fin.ext ?_)
    fin_cases a
    · show k0_off7 (grid0.coords t) 0 + 1 * k.val = k.val
      rw [off7_eq]; show 0 + 1 * k.val = k.val; omega
    · refine Eq.trans ?_ e1.symm
      show k0_off7 (grid0.coords t) 1 + 1 * (y 1).val = _
      rw [off7_eq]; show 256 * (t.val % 16) + 1 * (y 1).val = _; omega
  have hr : ∀ k : Fin 768, View.ld (XME (V m c main_arg2) (V m c main_arg0) (t.val / 16)) (rc ⟨(y 2).val / 256, by omega⟩) (ix2 k ⟨(y 2).val % 256, Nat.mod_lt _ (by omega)⟩)
      = XM (lo (F := Ideal) (argO m c) (t.val / 16)) (hi (F := Ideal) (argO m c) (t.val / 16)) (rowsAt (argX m c) (lo (F := Ideal) (argO m c) (t.val / 16)))
          (ix2 k (((cfg0.win 5).blk t).view.emb y 2)) := fun k => by
    refine congrArg (XME (V m c main_arg2) (V m c main_arg0) (t.val / 16)) (funext fun a => Fin.ext ?_)
    fin_cases a
    · show 0 + 1 * k.val = k.val; omega
    · refine Eq.trans ?_ e2.symm
      show 256 * ((y 2).val / 256) + 1 * ((y 2).val % 256) = _; omega
  have hh : View.ld (iblk m c 4 t) (ro ⟨(y 2).val / 256, by omega⟩) (ix3 0 (y 1) ⟨(y 2).val % 256, Nat.mod_lt _ (by omega)⟩)
      = argH m c (((cfg0.win 5).blk t).view.emb y) := by
    refine Eq.trans ?_ (iblk4_apply m c t y)
    refine congrArg (iblk m c 4 t) (funext fun a => Fin.ext ?_)
    fin_cases a
    · show 0 + 1 * 0 = (y 0).val; omega
    · show 0 + 1 * (y 1).val = (y 1).val; omega
    · show 256 * ((y 2).val / 256) + 1 * ((y 2).val % 256) = (y 2).val; omega
  simp only [hl, hr]
  have key : ∀ A B S T k g s : EReal, A = B → S = T → A * k + g * (S * s) = B * k + g * (T * s) := by
    rintro A _ S _ k g s rfl rfl; rfl
  refine (key _ _ _ _ _ _ _ hh (XM_gram (argX m c) _ _ hlo _ _)).trans ?_
  unfold res0
  rw [e0]
  rfl

/-- What a point writes back is its block of the first result. -/
theorem flushed5_eq (h : Starts m) (c : Dev nD) (dat : Dat τ (Elt Ideal) Unit ℕ (UR sig nD τ) ℕ cfg0 c) (t : Fin cfg0.N)
    (hd : dat.after 5 t = outAt m c t) : dat.flushed 5 t = ((cfg0.win 5).blk t).view.read (Elt Ideal) (res0 m c) := by
  funext y
  have e : dat.flushed 5 t y = dat.after 5 t y := rfl
  rw [e, hd]
  exact outAt_apply m h c t y

/-- Every index of the first result is in the block of one of the points. -/
theorem covered5 (i : S7x4096x4096.Idx) : ∃ t : Fin cfg0.N, (cfg0.win 5).flush t = true ∧ i ∈ ((cfg0.win 5).blk t).view.set := by
  have h0 : (i 0).val < 7 := (i 0).isLt
  have h1 : (i 1).val < 4096 := (i 1).isLt
  have h2 : (i 2).val < 4096 := (i 2).isLt
  let t : Fin cfg0.N := ⟨16 * (i 0).val + (i 1).val / 256, Nat.lt_of_lt_of_eq (by omega) N_0.symm⟩
  let y : S1x256x4096.Idx := ix3 0 ⟨(i 1).val % 256, Nat.mod_lt _ (by omega)⟩ (i 2)
  obtain ⟨e0, e1, e2⟩ := argIdx_val t y
  have ht : t.val = 16 * (i 0).val + (i 1).val / 256 := rfl
  have e : ((cfg0.win 5).blk t).view.emb y = i := by
    funext a; apply Fin.ext; fin_cases a
    · refine e0.trans ?_; show t.val / 16 = (i 0).val; omega
    · refine e1.trans ?_; show 256 * (t.val % 16) + (i 1).val % 256 = (i 1).val; omega
    · exact e2
  exact ⟨t, flush0_5 t, e ▸ ((cfg0.win 5).blk t).view.emb_mem_set y⟩

/-- The first result after the run, of any exact data that leave `outAt` in the output's block. -/
theorem final5 (h : Starts m) (c : Dev nD) (dat : Dat τ (Elt Ideal) Unit ℕ (UR sig nD τ) ℕ cfg0 c) (hd : ∀ t, dat.after 5 t = outAt m c t) :
    dat.arrAt 5 cfg0.N = res0 m c :=
  dat.arrAt_eq_of_cover 5 (res0 m c) (fun t _ => flushed5_eq m h c dat t (hd t)) covered5

theorem whole6 : (cfg0.win 6).WholeAt (⟨111, Nat.lt_of_lt_of_eq (by omega) N_0.symm⟩ : Fin cfg0.N) := by decide +kernel

/-- Both results after the run. -/
theorem final_results (h : Starts m) {r : PUnit × MemSt nD τ sig (Elt Ideal)} (hr : Pipeline.RDat.FramePost (cfgs 0) (rdats m) (V m) r) (c : Dev nD) :
    r.2.mem ((c.tc : Thread nD τ).loc main_v0_0) = res0 m c ∧ r.2.mem ((c.tc : Thread nD τ).loc main_v0_1) = res1 m c := by
  refine ⟨?_, ?_⟩
  · obtain ⟨after, hL, hA⟩ := hr.exists_exact c
    refine (hA 5).trans (final5 m h c _ fun t => ?_)
    obtain ⟨Y, -, hX⟩ := hL 5 t (flush0_5 t)
    rw [Dat.toRRel_after_of_eq_false _ (show fgt0 5 = false from rfl)] at hX
    exact (show after 5 t = (dats m 0 c).after 5 t from hX).trans (after0_5 m c t)
  · obtain ⟨X, hX, hG⟩ := Pipeline.RDat.ArrAt.emb_eq_of_wholeAt ((hr c).1 6) whole6
    have hR : cntRel m c _ X := Dat.toRRel_leaves (dats m 0 c) (show fgt0 6 = true from rfl) hX
    funext y
    have hy : (y 0).val < 7 := (y 0).isLt
    have e := hG y
    refine (show r.2.mem ((c.tc : Thread nD τ).loc main_v0_1) y = X y from e).trans ?_
    exact hR y (by show (y 0).val ≤ 111 / 16; omega)

/-- The run: both results at their formulas, the arguments as launched. -/
theorem run (h : Starts m) : θ_run defs (onTc (τ := τ) (main (F := Ideal))) ⟨m, fun _ => 0, ρ⟩ (fun r => ∀ c : Dev nD,
      r.2.mem ((c.tc : Thread nD τ).loc main_v0_0) = res0 m c
      ∧ r.2.mem ((c.tc : Thread nD τ).loc main_v0_1) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ hr c => ⟨(final_results m h hr.1 c).1, (final_results m h hr.1 c).2, final_args m hr.1 c⟩)
    (run_main m ρ (inside_of m h))

end Cert.KernelIdeal.Hand

end
-- ==== Proof.RefTrip.lean ====
/-
  One trip of the reference's loop over the experts, as functions of the contents the trip finds.
-/
module

public import proofs.«01_k».proof.Proof.Gen.ReferenceIdeal.Frame
public import Idealize.ShloMosaic.Lib.StableHlo.RunClose

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.StableHlo

variable {F : FTy → Type} [FloatOps F]

/-! ## What the pieces of a trip compute -/

/-- Words, read signed, as the starts of a dynamic slice. -/
def at0 {n : ℕ} (i : Fin n → IVec S_ 32) : Fin n → Int := fun k => BitVec.toInt (i k (Shape.Idx.first h_S_))

/-- The plane of a stack of seven matrices at the counter. -/
def pick3 (x : Vec F S7x4096x4096 .f32) (i : Vec F S_ .i32) : Vec F S4096x4096 .f32 :=
  shapeCast S4096x4096 (Host.dynamicSlice S1x4096x4096 x (at0 ![i, constantI S_ 32 0#32, constantI S_ 32 0#32]) sliceFits_S7x4096x4096_S1x4096x4096)
    shapeCasts_S1x4096x4096_S4096x4096

/-- The word of seven at the counter. -/
def pickI (x : Vec F S7 .i32) (i : Vec F S_ .i32) : Vec F S_ .i32 :=
  shapeCast S_ (Host.dynamicSlice S1 x (at0 ![i]) sliceFits_S7_S1) shapeCasts_S1_S_

/-- The float of seven at the counter. -/
def pickF (x : Vec F S7 .f32) (i : Vec F S_ .i32) : Vec F S_ .f32 :=
  shapeCast S_ (Host.dynamicSlice S1 x (at0 ![i]) sliceFits_S7_S1) shapeCasts_S1_S_

/-- The window's first row before wrapping and clamping. -/
def start (lo : Vec F S_ .i32) : Vec F S_ .i32 := minsi lo (constantI S_ 32 1463#32)

/-- The window of rows. -/
def win (x : Vec F S2048x4096 .f32) (lo : Vec F S_ .i32) : Vec F S585x4096 .f32 :=
  Host.dynamicSlice S585x4096 x
    (at0 ![select (cmpi .slt (start (F := F) lo) (constantI S_ 32 0#32)) (addi (start (F := F) lo) (constantI S_ 32 2048#32)) (start (F := F) lo),
      select (cmpi .slt (constantI S_ 32 0#32) (constantI S_ 32 0#32)) (addi (constantI S_ 32 0#32) (constantI S_ 32 4096#32)) (constantI S_ 32 0#32)])
    sliceFits_S2048x4096_S585x4096

/-- Which rows of the window are the expert's. -/
def valid (lo hi : Vec F S_ .i32) (rows : Vec F S585 .i32) : Vec F S585x1 .i1 :=
  broadcastInDim S585x1 ![0] bcast_S585_S585x1_0
    (andi (cmpi .sge (addi (broadcastInDim S585 ![] bcast_S_S585 (start (F := F) lo)) rows) (broadcastInDim S585 ![] bcast_S_S585 lo))
      (cmpi .slt (addi (broadcastInDim S585 ![] bcast_S_S585 (start (F := F) lo)) rows) (broadcastInDim S585 ![] bcast_S_S585 hi)))

/-- The window with the other rows at zero. -/
def masked (ok : Vec F S585x1 .i1) (w : Vec F S585x4096 .f32) (z : Vec F S_ .f32) : Vec F S585x4096 .f32 :=
  select (broadcastInDim S585x4096 ![0, 1] bcast_S585x1_S585x4096_0_1 ok) w (broadcastInDim S585x4096 ![] bcast_S_S585x4096 z)

/-- The scaled gram matrix of the masked window. -/
def gram (w : Vec F S585x4096 .f32) (s : Vec F S_ .f32) : Vec F S4096x4096 .f32 :=
  mulf (Host.dotGeneral dot_S585x4096_S585x4096_S4096x4096_0_0_1_1_n_n none w w)
    (broadcastInDim S4096x4096 ![] bcast_S_S4096x4096 (mulf s s))

/-- The part on and above the diagonal that starts at the word `d`. -/
def upper (d : BitVec 32) (g : Vec F S4096x4096 .f32) : Vec F S4096x4096 .f32 :=
  select (cmpi .sge (addi (iotaInDim S4096x4096 32 0) (broadcastInDim S4096x4096 ![] bcast_S_S4096x4096 (constantI S_ 32 d)))
      (iotaInDim S4096x4096 32 1))
    (broadcastInDim S4096x4096 ![] bcast_S_S4096x4096 (constant S_ .f32 0x00000000#32)) g

/-- The expert's new count. -/
def count (c lo hi : Vec F S_ .i32) : Vec F S_ .i32 := addi c (subi hi lo)

/-- The expert's new matrix from the old one and the symmetric gram matrix's two halves. -/
def update (h a b : Vec F S4096x4096 .f32) (c lo hi : Vec F S_ .i32) : Vec F S4096x4096 .f32 :=
  addf (mulf h (broadcastInDim S4096x4096 ![] bcast_S_S4096x4096 (Host.divf (sitofp .f32 c) (sitofp .f32 (count (F := F) c lo hi)))))
    (mulf (broadcastInDim S4096x4096 ![] bcast_S_S4096x4096 (Host.divf (constant S_ .f32 0x40000000#32) (sitofp .f32 (count (F := F) c lo hi))))
      (addf a (transpose S4096x4096 [1, 0] b transposes_S4096x4096_S4096x4096_1_0)))

/-- The stack with the counter's plane replaced. -/
def put3 (x : Vec F S7x4096x4096 .f32) (u : Vec F S4096x4096 .f32) (i : Vec F S_ .i32) : Vec F S7x4096x4096 .f32 :=
  Host.dynamicUpdateSlice x (broadcastInDim S1x4096x4096 ![1, 2] bcast_S4096x4096_S1x4096x4096_1_2 u) (at0 ![i, constantI S_ 32 0#32, constantI S_ 32 0#32])
    updateFits_S7x4096x4096_S1x4096x4096

/-- The seven words with the counter's replaced. -/
def putI (x : Vec F S7 .i32) (u : Vec F S_ .i32) (i : Vec F S_ .i32) : Vec F S7 .i32 :=
  Host.dynamicUpdateSlice x (broadcastInDim S1 ![] bcast_S_S1 u) (at0 ![i]) updateFits_S7_S1

/-! ## The stretches of a trip -/

variable (X : Valuation τ sig (Elt F))

theorem s0 : after while0Ops0 X (Proc.devRef .tc main_while0b_v7) = pick3 (X (Proc.devRef .tc main_v6_0)) (X (Proc.devRef .tc main_v6_7)) := by
  after_results_simp_entrywise
  rfl

theorem s1 : after while0Ops0_1 X (Proc.devRef .tc main_while0b_v8) = pickI (F := F) (X (Proc.devRef .tc main_v6_1)) (X (Proc.devRef .tc main_v6_7)) := by
  after_results_simp_entrywise
  rfl

theorem s2 : after while0Ops0_2 X (Proc.devRef .tc main_while0b_v9) = pickI (F := F) (X (Proc.devRef .tc main_v6_2)) (X (Proc.devRef .tc main_v6_7)) := by
  after_results_simp_entrywise
  rfl

theorem s3 : after while0Ops0_3 X (Proc.devRef .tc main_while0b_v10) = pickI (F := F) (X (Proc.devRef .tc main_v6_3)) (X (Proc.devRef .tc main_v6_7)) := by
  after_results_simp_entrywise
  rfl

theorem s4 : after while0Ops0_4 X (Proc.devRef .tc main_while0b_v11) = pickF (X (Proc.devRef .tc main_v6_4)) (X (Proc.devRef .tc main_v6_7)) := by
  after_results_simp_entrywise
  rfl

theorem s5_win : after while0Ops0_5 X (Proc.devRef .tc main_while0b_v19) = win (X (Proc.devRef .tc main_v6_5)) (X (Proc.devRef .tc main_while0b_v9)) := by
  after_results_simp_entrywise
  rfl

theorem s5_ok : after while0Ops0_5 X (Proc.devRef .tc main_while0b_v27)
    = valid (F := F) (X (Proc.devRef .tc main_while0b_v9)) (X (Proc.devRef .tc main_while0b_v10)) (X (Proc.devRef .tc main_v6_6)) := by
  after_results_simp_entrywise
  rfl

theorem s5_zero : after while0Ops0_5 X (Proc.devRef .tc main_while0b_cst_18) = constant S_ .f32 0x00000000#32 := by
  after_results_simp_entrywise

theorem s6 : after while0Ops0_6 X (Proc.devRef .tc main_while0b_v28)
    = masked (X (Proc.devRef .tc main_while0b_v27)) (X (Proc.devRef .tc main_while0b_v19)) (X (Proc.devRef .tc main_while0b_cst_18)) := by
  after_results_simp_entrywise
  rfl

theorem s7 : after while0Ops0_7 X (Proc.devRef .tc main_while0b_v32) = gram (X (Proc.devRef .tc main_while0b_v28)) (X (Proc.devRef .tc main_while0b_v11)) := by
  after_results_simp_entrywise
  rfl

/-- The operations of the first triangle, at any start of the diagonal. -/
abbrev upperOps (d : BitVec 32) : List (HloOp τ sig (Elt F)) :=
  [ StableHlo.TRef.nullary (.of main_while0b_call6_v0 : StableHlo.TRef sig ⟨S4096x4096, .i32⟩) (iotaInDim S4096x4096 32 0),
    StableHlo.TRef.nullary (.of main_while0b_call6_c : StableHlo.TRef sig ⟨S_, .i32⟩) (constantI S_ 32 d),
    StableHlo.TRef.unary (.of main_while0b_call6_c : StableHlo.TRef sig ⟨S_, .i32⟩) (.of main_while0b_call6_v1 : StableHlo.TRef sig ⟨S4096x4096, .i32⟩) (broadcastInDim S4096x4096 ![] bcast_S_S4096x4096),
    StableHlo.TRef.binary (.of main_while0b_call6_v0 : StableHlo.TRef sig ⟨S4096x4096, .i32⟩) (.of main_while0b_call6_v1 : StableHlo.TRef sig ⟨S4096x4096, .i32⟩) (.of main_while0b_call6_v2 : StableHlo.TRef sig ⟨S4096x4096, .i32⟩) addi,
    StableHlo.TRef.nullary (.of main_while0b_call6_v3 : StableHlo.TRef sig ⟨S4096x4096, .i32⟩) (iotaInDim S4096x4096 32 1),
    StableHlo.TRef.binary (.of main_while0b_call6_v2 : StableHlo.TRef sig ⟨S4096x4096, .i32⟩) (.of main_while0b_call6_v3 : StableHlo.TRef sig ⟨S4096x4096, .i32⟩) (.of main_while0b_call6_v4 : StableHlo.TRef sig ⟨S4096x4096, .i1⟩) (cmpi .sge),
    StableHlo.TRef.nullary (.of main_while0b_call6_cst : StableHlo.TRef sig ⟨S_, .f32⟩) (constant S_ .f32 0x00000000#32),
    StableHlo.TRef.unary (.of main_while0b_call6_cst : StableHlo.TRef sig ⟨S_, .f32⟩) (.of main_while0b_call6_v5 : StableHlo.TRef sig ⟨S4096x4096, .f32⟩) (broadcastInDim S4096x4096 ![] bcast_S_S4096x4096),
    StableHlo.TRef.ternary (.of main_while0b_call6_v4 : StableHlo.TRef sig ⟨S4096x4096, .i1⟩) (.of main_while0b_call6_v5 : StableHlo.TRef sig ⟨S4096x4096, .f32⟩) (.of main_while0b_v32 : StableHlo.TRef sig ⟨S4096x4096, .f32⟩) (.of main_while0b_v33 : StableHlo.TRef sig ⟨S4096x4096, .f32⟩) select ]

theorem s8_of (d : BitVec 32) : after (upperOps d) X (Proc.devRef .tc main_while0b_v33) = upper d (X (Proc.devRef .tc main_while0b_v32)) := by
  after_results_simp_entrywise
  rfl

theorem s8 : after while0Ops0_8 X (Proc.devRef .tc main_while0b_v33) = upper 4294967295#32 (X (Proc.devRef .tc main_while0b_v32)) :=
  s8_of X 4294967295#32

theorem s9 : after while0Ops0_9 X (Proc.devRef .tc main_while0b_v34) = upper 0#32 (X (Proc.devRef .tc main_while0b_v32)) := by
  after_results_simp_entrywise
  rfl

theorem s10_new : after while0Ops0_10 X (Proc.devRef .tc main_while0b_v47)
    = update (X (Proc.devRef .tc main_while0b_v7)) (X (Proc.devRef .tc main_while0b_v33)) (X (Proc.devRef .tc main_while0b_v34))
        (X (Proc.devRef .tc main_while0b_v8)) (X (Proc.devRef .tc main_while0b_v9)) (X (Proc.devRef .tc main_while0b_v10)) := by
  after_results_simp_entrywise
  rfl

theorem s10_count : after while0Ops0_10 X (Proc.devRef .tc main_while0b_v38)
    = count (F := F) (X (Proc.devRef .tc main_while0b_v8)) (X (Proc.devRef .tc main_while0b_v9)) (X (Proc.devRef .tc main_while0b_v10)) := by
  after_results_simp_entrywise
  rfl

theorem s11 : after while0Ops0_11 X (Proc.devRef .tc main_while0b_v48)
    = put3 (X (Proc.devRef .tc main_v6_8)) (X (Proc.devRef .tc main_while0b_v47)) (X (Proc.devRef .tc main_v6_7)) := by
  after_results_simp_entrywise
  rfl

theorem s12 : after while0Ops0_12 X (Proc.devRef .tc main_while0b_v49)
    = putI (F := F) (X (Proc.devRef .tc main_v6_9)) (X (Proc.devRef .tc main_while0b_v38)) (X (Proc.devRef .tc main_v6_7)) := by
  after_results_simp_entrywise
  rfl

theorem s13_new : after while0Ops0_13 X (Proc.devRef .tc main_v6_8) = X (Proc.devRef .tc main_while0b_v48) := by
  after_results_simp_entrywise
  rfl

theorem s13_count : after while0Ops0_13 X (Proc.devRef .tc main_v6_9) = X (Proc.devRef .tc main_while0b_v49) := by
  after_results_simp_entrywise
  rfl

/-! ## The trip: each stretch keeps what it does not write -/

theorem k0 {r : Ref sig .tc} (h : r ∉ while0Ops0_W) : after while0Ops0 X (Proc.devRef .tc r) = X (Proc.devRef .tc r) :=
  after_of_writes_sub while0Ops0 X while0Ops0_writes h
theorem k1 {r : Ref sig .tc} (h : r ∉ while0Ops0_1_W) : after while0Ops0_1 X (Proc.devRef .tc r) = X (Proc.devRef .tc r) :=
  after_of_writes_sub while0Ops0_1 X while0Ops0_1_writes h
theorem k2 {r : Ref sig .tc} (h : r ∉ while0Ops0_2_W) : after while0Ops0_2 X (Proc.devRef .tc r) = X (Proc.devRef .tc r) :=
  after_of_writes_sub while0Ops0_2 X while0Ops0_2_writes h
theorem k3 {r : Ref sig .tc} (h : r ∉ while0Ops0_3_W) : after while0Ops0_3 X (Proc.devRef .tc r) = X (Proc.devRef .tc r) :=
  after_of_writes_sub while0Ops0_3 X while0Ops0_3_writes h
theorem k4 {r : Ref sig .tc} (h : r ∉ while0Ops0_4_W) : after while0Ops0_4 X (Proc.devRef .tc r) = X (Proc.devRef .tc r) :=
  after_of_writes_sub while0Ops0_4 X while0Ops0_4_writes h
theorem k5 {r : Ref sig .tc} (h : r ∉ while0Ops0_5_W) : after while0Ops0_5 X (Proc.devRef .tc r) = X (Proc.devRef .tc r) :=
  after_of_writes_sub while0Ops0_5 X while0Ops0_5_writes h
theorem k6 {r : Ref sig .tc} (h : r ∉ while0Ops0_6_W) : after while0Ops0_6 X (Proc.devRef .tc r) = X (Proc.devRef .tc r) :=
  after_of_writes_sub while0Ops0_6 X while0Ops0_6_writes h
theorem k7 {r : Ref sig .tc} (h : r ∉ while0Ops0_7_W) : after while0Ops0_7 X (Proc.devRef .tc r) = X (Proc.devRef .tc r) :=
  after_of_writes_sub while0Ops0_7 X while0Ops0_7_writes h
theorem k8 {r : Ref sig .tc} (h : r ∉ while0Ops0_8_W) : after while0Ops0_8 X (Proc.devRef .tc r) = X (Proc.devRef .tc r) :=
  after_of_writes_sub while0Ops0_8 X while0Ops0_8_writes h
theorem k9 {r : Ref sig .tc} (h : r ∉ while0Ops0_9_W) : after while0Ops0_9 X (Proc.devRef .tc r) = X (Proc.devRef .tc r) :=
  after_of_writes_sub while0Ops0_9 X while0Ops0_9_writes h
theorem k10 {r : Ref sig .tc} (h : r ∉ while0Ops0_10_W) : after while0Ops0_10 X (Proc.devRef .tc r) = X (Proc.devRef .tc r) :=
  after_of_writes_sub while0Ops0_10 X while0Ops0_10_writes h
theorem k11 {r : Ref sig .tc} (h : r ∉ while0Ops0_11_W) : after while0Ops0_11 X (Proc.devRef .tc r) = X (Proc.devRef .tc r) :=
  after_of_writes_sub while0Ops0_11 X while0Ops0_11_writes h
theorem k12 {r : Ref sig .tc} (h : r ∉ while0Ops0_12_W) : after while0Ops0_12 X (Proc.devRef .tc r) = X (Proc.devRef .tc r) :=
  after_of_writes_sub while0Ops0_12 X while0Ops0_12_writes h
theorem k13 {r : Ref sig .tc} (h : r ∉ while0Ops0_13_W) : after while0Ops0_13 X (Proc.devRef .tc r) = X (Proc.devRef .tc r) :=
  after_of_writes_sub while0Ops0_13 X while0Ops0_13_writes h
theorem kc {r : Ref sig .tc} (h : r ∉ condOps_W) : after condOps X (Proc.devRef .tc r) = X (Proc.devRef .tc r) :=
  after_of_writes_sub condOps X condOps_writes h

/-- The expert's new matrix from what the loop carries. -/
def plane (h : Vec F S7x4096x4096 .f32) (c lo hi : Vec F S7 .i32) (s : Vec F S7 .f32) (x : Vec F S2048x4096 .f32)
    (rows : Vec F S585 .i32) (i : Vec F S_ .i32) : Vec F S4096x4096 .f32 :=
  let w := gram (masked (valid (F := F) (pickI (F := F) lo i) (pickI (F := F) hi i) rows) (win x (pickI (F := F) lo i)) (constant S_ .f32 0x00000000#32)) (pickF s i)
  update (pick3 h i) (upper 4294967295#32 w) (upper 0#32 w) (pickI (F := F) c i) (pickI (F := F) lo i) (pickI (F := F) hi i)

/-- The contents a trip leaves. -/
abbrev trip : Valuation τ sig (Elt F) := afterL bodyI (after condOps X)

/-- A trip keeps what the loop only reads. -/
theorem trip_keep {r : Ref sig .tc} (h : r ∈ [main_v6_0, main_v6_1, main_v6_2, main_v6_3, main_v6_4, main_v6_5, main_v6_6]) :
    trip X (Proc.devRef .tc r) = X (Proc.devRef .tc r) := by
  simp only [trip, afterL_cons, afterL_nil]
  simp only [List.mem_cons, List.not_mem_nil, or_false] at h
  rcases h with rfl | rfl | rfl | rfl | rfl | rfl | rfl <;>
    rw [k13 _ (by decide), k12 _ (by decide), k11 _ (by decide), k10 _ (by decide), k9 _ (by decide), k8 _ (by decide), k7 _ (by decide), k6 _ (by decide), k5 _ (by decide), k4 _ (by decide), k3 _ (by decide), k2 _ (by decide), k1 _ (by decide), k0 _ (by decide), kc _ (by decide)]

/-- A trip puts the expert's new matrix at its plane. -/
theorem trip_new : trip X (Proc.devRef .tc main_v6_8)
    = put3 (X (Proc.devRef .tc main_v6_8))
        (plane (X (Proc.devRef .tc main_v6_0)) (X (Proc.devRef .tc main_v6_1)) (X (Proc.devRef .tc main_v6_2)) (X (Proc.devRef .tc main_v6_3))
          (X (Proc.devRef .tc main_v6_4)) (X (Proc.devRef .tc main_v6_5)) (X (Proc.devRef .tc main_v6_6)) (X (Proc.devRef .tc main_v6_7)))
        (X (Proc.devRef .tc main_v6_7)) := by
  simp only [trip, afterL_cons, afterL_nil]
  rw [s13_new, k12 _ (by decide), s11, s10_new]
  repeat rw [k11 _ (by decide)]
  repeat rw [k10 _ (by decide)]
  rw [s9]
  repeat rw [k9 _ (by decide)]
  rw [s8]
  repeat rw [k8 _ (by decide)]
  rw [s7]
  repeat rw [k7 _ (by decide)]
  rw [s6]
  repeat rw [k6 _ (by decide)]
  rw [s5_win, s5_ok, s5_zero]
  repeat rw [k5 _ (by decide)]
  rw [s4]
  repeat rw [k4 _ (by decide)]
  rw [s3]
  repeat rw [k3 _ (by decide)]
  rw [s2]
  repeat rw [k2 _ (by decide)]
  rw [s1]
  repeat rw [k1 _ (by decide)]
  rw [s0]
  repeat rw [k0 _ (by decide)]
  repeat rw [kc _ (by decide)]
  rfl

/-- A trip puts the expert's new count at its place. -/
theorem trip_count : trip X (Proc.devRef .tc main_v6_9)
    = putI (F := F) (X (Proc.devRef .tc main_v6_9))
        (count (F := F) (pickI (F := F) (X (Proc.devRef .tc main_v6_1)) (X (Proc.devRef .tc main_v6_7)))
          (pickI (F := F) (X (Proc.devRef .tc main_v6_2)) (X (Proc.devRef .tc main_v6_7)))
          (pickI (F := F) (X (Proc.devRef .tc main_v6_3)) (X (Proc.devRef .tc main_v6_7))))
        (X (Proc.devRef .tc main_v6_7)) := by
  simp only [trip, afterL_cons, afterL_nil]
  rw [s13_count, s12]
  repeat rw [k11 _ (by decide)]
  rw [s10_count]
  repeat rw [k10 _ (by decide)]
  repeat rw [k9 _ (by decide)]
  repeat rw [k8 _ (by decide)]
  repeat rw [k7 _ (by decide)]
  repeat rw [k6 _ (by decide)]
  repeat rw [k5 _ (by decide)]
  repeat rw [k4 _ (by decide)]
  rw [s3]
  repeat rw [k3 _ (by decide)]
  rw [s2]
  repeat rw [k2 _ (by decide)]
  rw [s1]
  repeat rw [k1 _ (by decide)]
  repeat rw [k0 _ (by decide)]
  repeat rw [kc _ (by decide)]

end Cert.ReferenceIdeal.Hand
-- ==== Proof.RefRun.lean ====
/-
  What the reference leaves in its two results: one formula per plane and per count.
-/
module

public import proofs.«01_k».proof.Proof.RefTrip
public import Idealize.ShloMosaic.Lib.ValueIdx
public import Idealize.ShloMosaic.Lib.ValueLayout
public import Idealize.ShloMosaic.Lib.DynamicIndex
public import Idealize.ShloMosaic.Lib.WordCmp
public import Idealize.ShloMosaic.Lib.Claim
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic hiding ix1 ix2 ix3
open Idealize.ShloMosaic.TcCoe Idealize.ShloMosaic.Tactic
open Idealize.ShloMosaic.StableHlo Idealize.ShloMosaic.ValueIdx
open Idealize.ShloMosaic.Pipeline (Dat Cfg Window)

variable {F : FTy → Type} [FloatOps F]
variable (m : (ℓ : Loc nD τ sig) → Buf (Elt F) ℓ) (ρ : Dev nD → PrngReg)

/-- The counter's words. -/
abbrev word (e : ℕ) : Vec F S_ .i32 := fun _ => BitVec.ofNat 32 e

theorem iv_eq (k : ℕ) : Scf.iv 0#32 1#32 k = BitVec.ofNat 32 k := by
  simp [Scf.iv]

theorem toInt_word {e : ℕ} (he : e < 7) : (BitVec.ofNat 32 e).toInt = (e : Int) := toInt_ofNat_of_lt (by omega)

/-! ## Reading and writing at the counter -/

theorem put3_apply (x : Vec F S7x4096x4096 .f32) (u : Vec F S4096x4096 .f32) {e : ℕ} (he : e < 7) (y : S7x4096x4096.Idx) :
    put3 x u (word (F := F) e) y = if (y 0).val = e then u (ix2 (y 1) (y 2)) else x y := by
  unfold put3
  rw [WordCmp.dynamicUpdateSlice_eq_update x _ _ updateFits_S7x4096x4096_S1x4096x4096 ![e, 0, 0]
    ⟨rfl, fun a => by fin_cases a <;> simp [S7x4096x4096, S1x4096x4096] <;> omega⟩
    (fun a => by fin_cases a <;> first | exact toInt_word he | rfl)]
  unfold updateSlice
  have h1 := (y 1).isLt
  have h2 := (y 2).isLt
  by_cases h : (y 0).val = e
  · rw [dif_pos, if_pos h]
    · unfold broadcastInDim
      refine congrArg u (funext fun a => Fin.ext ?_)
      fin_cases a <;> rfl
    · intro a
      fin_cases a
      · show e ≤ (y 0).val ∧ (y 0).val < e + 1
        omega
      · show 0 ≤ (y 1).val ∧ (y 1).val < 0 + 4096
        exact ⟨Nat.zero_le _, by simpa using h1⟩
      · show 0 ≤ (y 2).val ∧ (y 2).val < 0 + 4096
        exact ⟨Nat.zero_le _, by simpa using h2⟩
  · rw [dif_neg, if_neg h]
    intro hh
    have : e ≤ (y 0).val ∧ (y 0).val < e + 1 := hh 0
    omega

theorem putI_apply (x : Vec F S7 .i32) (u : Vec F S_ .i32) {e : ℕ} (he : e < 7) (y : S7.Idx) :
    putI (F := F) x u (word (F := F) e) y = if (y 0).val = e then u (Shape.Idx.first h_S_) else x y := by
  unfold putI
  rw [WordCmp.dynamicUpdateSlice_eq_update x _ _ updateFits_S7_S1 ![e]
    ⟨rfl, fun a => by fin_cases a; simp [S7, S1]; omega⟩
    (fun a => by fin_cases a; exact toInt_word he)]
  unfold updateSlice
  by_cases h : (y 0).val = e
  · rw [dif_pos, if_pos h]
    · unfold broadcastInDim
      exact congrArg u (funext fun a => a.elim0)
    · intro a
      fin_cases a
      show e ≤ (y 0).val ∧ (y 0).val < e + 1
      omega
  · rw [dif_neg, if_neg h]
    intro hh
    have : e ≤ (y 0).val ∧ (y 0).val < e + 1 := hh 0
    omega

theorem pick3_apply (x : Vec F S7x4096x4096 .f32) {e : ℕ} (he : e < 7) (y : S4096x4096.Idx) :
    pick3 x (word (F := F) e) y = x (ix3 ⟨e, he⟩ (y 0) (y 1)) := by
  unfold pick3
  rw [WordCmp.dynamicSlice_eq_extract S1x4096x4096 x _ sliceFits_S7x4096x4096_S1x4096x4096 ![e, 0, 0]
    ⟨rfl, fun a => by fin_cases a <;> simp [S7x4096x4096, S1x4096x4096] <;> omega⟩
    (fun a => by fin_cases a <;> first | exact toInt_word he | rfl)]
  refine (shapeCast_dropUnit_apply ![4096, 4096] _ shapeCasts_S1x4096x4096_S4096x4096 y).trans ?_
  unfold extractStridedSlice
  refine congrArg x (funext fun a => Fin.ext ?_)
  fin_cases a
  · rfl
  · exact Nat.zero_add _
  · exact Nat.zero_add _

theorem pickI_apply (x : Vec F S7 .i32) {e : ℕ} (he : e < 7) (y : S_.Idx) :
    pickI (F := F) x (word (F := F) e) y = x (ix1 ⟨e, he⟩) := by
  unfold pickI
  rw [WordCmp.dynamicSlice_eq_extract S1 x _ sliceFits_S7_S1 ![e]
    ⟨rfl, fun a => by fin_cases a; simp [S7, S1]; omega⟩
    (fun a => by fin_cases a; exact toInt_word he)]
  refine (shapeCast_dropUnit_apply ![] _ shapeCasts_S1_S_ y).trans ?_
  unfold extractStridedSlice
  refine congrArg x (funext fun a => Fin.ext ?_)
  fin_cases a
  rfl

theorem pickF_apply (x : Vec F S7 .f32) {e : ℕ} (he : e < 7) (y : S_.Idx) :
    pickF x (word (F := F) e) y = x (ix1 ⟨e, he⟩) := by
  unfold pickF
  rw [WordCmp.dynamicSlice_eq_extract S1 x _ sliceFits_S7_S1 ![e]
    ⟨rfl, fun a => by fin_cases a; simp [S7, S1]; omega⟩
    (fun a => by fin_cases a; exact toInt_word he)]
  refine (shapeCast_dropUnit_apply ![] _ shapeCasts_S1_S_ y).trans ?_
  unfold extractStridedSlice
  refine congrArg x (funext fun a => Fin.ext ?_)
  fin_cases a
  rfl

/-! ## The loop -/

/-- The stack after `k` trips, and the counts. -/
def stackAt (c : Dev nD) (i : Vec F S_ .i32) : Vec F S4096x4096 .f32 :=
  plane (Went m ρ c (Proc.devRef .tc main_v6_0)) (Went m ρ c (Proc.devRef .tc main_v6_1)) (Went m ρ c (Proc.devRef .tc main_v6_2))
    (Went m ρ c (Proc.devRef .tc main_v6_3)) (Went m ρ c (Proc.devRef .tc main_v6_4)) (Went m ρ c (Proc.devRef .tc main_v6_5))
    (Went m ρ c (Proc.devRef .tc main_v6_6)) i

/-- The count the trip at the counter `i` puts. -/
def countAt (c : Dev nD) (i : Vec F S_ .i32) : Vec F S_ .i32 :=
  count (F := F) (pickI (F := F) (Went m ρ c (Proc.devRef .tc main_v6_1)) i) (pickI (F := F) (Went m ρ c (Proc.devRef .tc main_v6_2)) i)
    (pickI (F := F) (Went m ρ c (Proc.devRef .tc main_v6_3)) i)

theorem Wk_succ (k : ℕ) (c : Dev nD) : Wk m ρ (k + 1) c = trip (Wk m ρ k c) := rfl

/-- No trip changes what the loop only reads. -/
theorem Wk_keep (c : Dev nD) {r : Ref sig .tc}
    (h : r ∈ [main_v6_0, main_v6_1, main_v6_2, main_v6_3, main_v6_4, main_v6_5, main_v6_6]) :
    ∀ k, Wk m ρ k c (Proc.devRef .tc r) = Went m ρ c (Proc.devRef .tc r)
  | 0 => rfl
  | k + 1 => by rw [Wk_succ, trip_keep _ h]; exact Wk_keep c h k

theorem Wk_word (c : Dev nD) (k : ℕ) : Wk m ρ k c (Proc.devRef .tc main_v6_7) = word (F := F) k := by
  rw [atK_ctr, iv_eq]
  rfl

/-- Before trip `k` the planes of the experts before `k` are the new ones. -/
theorem Wk_new (c : Dev nD) : ∀ k, k ≤ 7 → ∀ y : S7x4096x4096.Idx, (y 0).val < k →
    (Wk m ρ k c (Proc.devRef .tc main_v6_8) : Vec F S7x4096x4096 .f32) y = stackAt m ρ c (word (F := F) (y 0).val) (ix2 (y 1) (y 2))
  | 0, _, y, h => absurd h (Nat.not_lt_zero _)
  | k + 1, hk, y, h => by
    rw [Wk_succ, trip_new, Wk_word]
    simp only [Wk_keep m ρ c (r := main_v6_0) (by simp) k, Wk_keep m ρ c (r := main_v6_1) (by simp) k, Wk_keep m ρ c (r := main_v6_2) (by simp) k,
      Wk_keep m ρ c (r := main_v6_3) (by simp) k, Wk_keep m ρ c (r := main_v6_4) (by simp) k, Wk_keep m ρ c (r := main_v6_5) (by simp) k,
      Wk_keep m ρ c (r := main_v6_6) (by simp) k]
    refine (put3_apply _ _ (by omega) y).trans ?_
    by_cases e : (y 0).val = k
    · rw [if_pos e, e]; rfl
    · rw [if_neg e]; exact Wk_new c k (by omega) y (by omega)

/-- Before trip `k` the counts of the experts before `k` are the new ones. -/
theorem Wk_count (c : Dev nD) : ∀ k, k ≤ 7 → ∀ y : S7.Idx, (y 0).val < k →
    (Wk m ρ k c (Proc.devRef .tc main_v6_9) : Vec F S7 .i32) y = countAt m ρ c (word (F := F) (y 0).val) (Shape.Idx.first h_S_)
  | 0, _, y, h => absurd h (Nat.not_lt_zero _)
  | k + 1, hk, y, h => by
    rw [Wk_succ, trip_count, Wk_word]
    simp only [Wk_keep m ρ c (r := main_v6_1) (by simp) k, Wk_keep m ρ c (r := main_v6_2) (by simp) k,
      Wk_keep m ρ c (r := main_v6_3) (by simp) k]
    refine (putI_apply _ _ (by omega) y).trans ?_
    by_cases e : (y 0).val = k
    · rw [if_pos e, e]; rfl
    · rw [if_neg e]; exact Wk_count c k (by omega) y (by omega)

/-! ## What the loop is entered with -/

theorem went0 (c : Dev nD) : Went m ρ c (Proc.devRef .tc main_v6_0) = m ((c : Thread nD τ).loc main_arg3) := by
  refine Eq.trans ?_ (W2_args m ρ c main_arg3 (by decide))
  simp only [Went, afterL_cons, afterL_nil]
  after_results
  rfl

theorem went1 (c : Dev nD) : Went m ρ c (Proc.devRef .tc main_v6_1) = m ((c : Thread nD τ).loc main_arg4) := by
  refine Eq.trans ?_ (W2_args m ρ c main_arg4 (by decide))
  simp only [Went, afterL_cons, afterL_nil]
  after_results
  rfl

theorem went2 (c : Dev nD) : Went m ρ c (Proc.devRef .tc main_v6_2)
    = extractStridedSlice S7 ![0] (m ((c : Thread nD τ).loc main_arg2)) slices_S8_S7_0 := by
  rw [← W2_args m ρ c main_arg2 (by decide)]
  simp only [Went, afterL_cons, afterL_nil]
  after_results
  rfl

theorem went3 (c : Dev nD) : Went m ρ c (Proc.devRef .tc main_v6_3)
    = extractStridedSlice S7 ![1] (m ((c : Thread nD τ).loc main_arg2)) slices_S8_S7_1 := by
  rw [← W2_args m ρ c main_arg2 (by decide)]
  simp only [Went, afterL_cons, afterL_nil]
  after_results
  rfl

theorem went4 (c : Dev nD) : Went m ρ c (Proc.devRef .tc main_v6_4) = m ((c : Thread nD τ).loc main_arg1) := by
  refine Eq.trans ?_ (W2_args m ρ c main_arg1 (by decide))
  simp only [Went, afterL_cons, afterL_nil]
  after_results
  rfl

theorem went6 (c : Dev nD) : Went m ρ c (Proc.devRef .tc main_v6_6) = iotaInDim S585 32 0 := by
  have e : W2 m ρ c (Proc.devRef .tc main_v0) = iotaInDim S585 32 0 := by
    rw [W2_of m ρ c main_v0 (by decide)]
    after_results
  rw [← e]
  simp only [Went, afterL_cons, afterL_nil]
  after_results
  rfl

/-- The widened activations. -/
theorem went5 (c : Dev nD) : Went m ρ c (Proc.devRef .tc main_v6_5)
    = extf .f32 (m ((c : Thread nD τ).loc main_arg0) : Vec F S2048x4096 .fp8e4m3) bitsLt_fp8e4m3_f32 := by
  have e : W2 m ρ c (Proc.devRef .tc main_v1) = extf .f32 (m ((c : Thread nD τ).loc main_arg0) : Vec F S2048x4096 .fp8e4m3) bitsLt_fp8e4m3_f32 := by
    refine (W2_arr m ρ c 1).trans ?_
    refine (dat0 (V1 m ρ) c).arrAt_eq_of_after_last 1 t0_0 (by decide +kernel) _ fun j => ?_
    have hb : iblk0 (V1 m ρ) c 0 t0_0 = m ((c : Thread nD τ).loc main_arg0) := by
      rw [← W1_args m ρ c main_arg0 (by decide)]
      funext j
      show W1 m ρ c (Proc.devRef .tc main_arg0) (((cfg0.win 0).blk t0_0).view.emb j) = W1 m ρ c (Proc.devRef .tc main_arg0) j
      refine congrArg _ ?_
      funext a; apply Fin.ext; fin_cases a
      · show 0 * 2048 + 1 * (j 0).val = (j 0).val
        omega
      · show 0 * 4096 + 1 * (j 1).val = (j 1).val
        omega
    blk_simp
    rw [after0_1, hb]
    unfold out0_1
    frame_out
    rfl
  rw [← e]
  simp only [Went, afterL_cons, afterL_nil]
  after_results
  rfl

/-! ## What the run leaves -/

/-- The counts at the end. -/
theorem end_count (c : Dev nD) (y : S7.Idx) :
    (WN m ρ c (Proc.devRef .tc main_v6_9) : Vec F S7 .i32) y = countAt m ρ c (word (F := F) (y 0).val) (Shape.Idx.first h_S_) :=
  (congrFun (kc (Wk m ρ 7 c) (r := main_v6_9) (by decide)) y).trans (Wk_count m ρ c 7 le_rfl y (y 0).isLt)

/-- The stack at the end. -/
theorem end_new (c : Dev nD) (y : S7x4096x4096.Idx) :
    (WN m ρ c (Proc.devRef .tc main_v6_8) : Vec F S7x4096x4096 .f32) y = stackAt m ρ c (word (F := F) (y 0).val) (ix2 (y 1) (y 2)) :=
  (congrFun (kc (Wk m ρ 7 c) (r := main_v6_8) (by decide)) y).trans (Wk_new m ρ c 7 le_rfl y (y 0).isLt)

/-- The run: both results at the contents of the end, the arguments as launched. -/
theorem run : θ_run defs (onTc (τ := τ) (main (F := F))) ⟨m, fun _ => 0, ρ⟩ (fun r => ∀ c : Dev nD,
      r.2.mem ((c.tc : Thread nD τ).loc main_v6_8) = WN m ρ c (Proc.devRef .tc main_v6_8)
      ∧ r.2.mem ((c.tc : Thread nD τ).loc main_v6_9) = WN m ρ c (Proc.devRef .tc main_v6_9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => by
    have h := hr.1
    exact ⟨h c _ (mem_uc main_v6_8 (by decide)), h c _ (mem_uc main_v6_9 (by decide)),
      (h c _ (mem_uc main_arg0 (by decide))).trans (WN_main_arg0 m ρ c), (h c _ (mem_uc main_arg1 (by decide))).trans (WN_main_arg1 m ρ c),
      (h c _ (mem_uc main_arg2 (by decide))).trans (WN_main_arg2 m ρ c), (h c _ (mem_uc main_arg3 (by decide))).trans (WN_main_arg3 m ρ c),
      (h c _ (mem_uc main_arg4 (by decide))).trans (WN_main_arg4 m ρ c)⟩) (run_main_quiescent m ρ)

end Cert.ReferenceIdeal.Hand
-- ==== Proof.RefValue.lean ====
/-
  The reference's two results over the extended reals, element by element.
-/
module

public import proofs.«01_k».proof.Proof.RefRun
public import proofs.«01_k».proof.Proof.Sums
public import Idealize.ShloMosaic.Lib.Affine
public import Idealize.ShloMosaic.Lib.IdealHost
public import Idealize.ShloMosaic.Lib.Pointwise

@[expose] public section

set_option maxRecDepth 16384

noncomputable section

namespace Cert.ReferenceIdeal.Hand

open Cert.ReferenceIdeal Cert.ReferenceIdeal.Gen Cert.Sums
open Idealize.ShloMosaic hiding ix0 ix1 ix2 ix3
open Idealize.ShloMosaic.TcCoe Idealize.ShloMosaic.Tactic
open Idealize.ShloMosaic.StableHlo Idealize.ShloMosaic.ValueIdx

/-- The one element of a scalar. -/
abbrev the {α : Type} (x : S_.Idx → α) : α := x ix0

theorem the_eq {α : Type} (x : S_.Idx → α) (j : S_.Idx) : x j = the x := congrArg x (funext fun a => a.elim0)

/-- Where the window of an expert starts. -/
def from' (lo : BitVec 32) : ℕ := min lo.toNat 1463

open Affine in
theorem start_int (lo : Vec Ideal S_ .i32) (j : S_.Idx) : IsInt (start (F := Ideal) lo j) (min (the lo).toInt 1463) := by
  refine minsi (ea := (the lo).toInt) ?_ (ofNat 1463 (by omega)) rfl
  rw [the_eq lo j]; exact Affine.word _

open Affine in
theorem toInt_of {x : BitVec 32} {e : Int} (h : IsInt x e) : x.toInt = e := by unfold IsInt at h; exact h

theorem toNat_nonneg (w : BitVec 32) (h : 0 ≤ w.toInt) : (w.toNat : Int) = w.toInt := by
  rw [BitVec.toInt_eq_toNat_cond] at h ⊢
  have := w.isLt
  split at h <;> rename_i h' <;> simp only [h', if_true, if_false] <;> omega

theorem from_eq (lo : BitVec 32) (h : 0 ≤ lo.toInt) : (from' lo : Int) = min lo.toInt 1463 := by
  have := toNat_nonneg lo h
  unfold from'; omega

theorem win_slices (b : ℕ) (h : b ≤ 1463) : S2048x4096.Slices ![b, 0] S585x4096 := by
  refine ⟨rfl, fun a => ?_⟩
  fin_cases a
  · show b + 585 ≤ 2048; omega
  · show 0 + 4096 ≤ 4096; omega

/-- The window's element. -/
theorem win_apply (x : Vec Ideal S2048x4096 .f32) (lo : Vec Ideal S_ .i32) (h : 0 ≤ (the lo).toInt) (k : Fin 585) (r : Fin 4096) :
    win x lo (ix2 k r) = row x (from' (the lo) + k.val) r := by
  have hf : from' (the lo) ≤ 1463 := by unfold from'; omega
  unfold win
  rw [WordCmp.dynamicSlice_eq_extract S585x4096 x _ sliceFits_S2048x4096_S585x4096 ![from' (the lo), 0] (win_slices _ hf) (fun a => by
    fin_cases a
    · show BitVec.toInt (select (cmpi .slt (start (F := Ideal) lo) (constantI S_ 32 0#32)) (addi (start (F := Ideal) lo) (constantI S_ 32 2048#32))
        (start (F := Ideal) lo) (Shape.Idx.first h_S_)) = (from' (the lo) : Int)
      have hs := toInt_of (start_int lo (Shape.Idx.first h_S_))
      rw [select_slt_zero_of_nonneg _ _ _ _ (by rw [hs]; omega), hs, from_eq _ h]
    · show BitVec.toInt (select (cmpi .slt (constantI S_ 32 0#32) (constantI S_ 32 0#32)) (addi (constantI S_ 32 0#32) (constantI S_ 32 4096#32))
        (constantI S_ 32 0#32) (Shape.Idx.first h_S_)) = ((0 : ℕ) : Int)
      rw [select_slt_zero_of_nonneg _ _ _ _ (by decide)]; rfl)]
  unfold extractStridedSlice row
  refine congrArg x (funext fun a => Fin.ext ?_)
  have := k.isLt
  fin_cases a
  · show from' (the lo) + k.val = min (from' (the lo) + k.val) 2047
    omega
  · exact Nat.zero_add _

open Affine in
/-- The masked window's element: the expert's element of the row. -/
theorem masked_apply (x : Vec Ideal S2048x4096 .f32) (lo hi : Vec Ideal S_ .i32) (h : 0 ≤ (the lo).toInt) (k : Fin 585) (r : Fin 4096) :
    masked (valid (F := Ideal) lo hi (iotaInDim S585 32 0)) (win x lo) (constant (F := Ideal) S_ .f32 0x00000000#32) (ix2 k r)
      = kept x (the lo) (the hi) (from' (the lo) + k.val) r := by
  have hk := k.isLt
  have hw : ∀ c : BitVec 1, (c = 1#1 ↔ rowOk (the lo) (the hi) (from' (the lo) + k.val)) →
      Scalar.select c (win x lo (ix2 k r)) (Ideal.ofBits .f32 0x00000000#32) = kept x (the lo) (the hi) (from' (the lo) + k.val) r := by
    intro c hc
    rw [Ideal.ofBits_zero_f32, win_apply x lo h]
    unfold kept
    by_cases h1 : c = 1#1
    · rw [if_pos (hc.mp h1), h1]; rfl
    · rw [if_neg (fun h' => h1 (hc.mpr h'))]
      unfold Scalar.select
      exact if_neg h1
  refine hw (IntOp.andi (IntOp.cmpi .sge (Scalar.addi (start (F := Ideal) lo _) (BitVec.ofNat 32 k.val)) (lo _))
    (IntOp.cmpi .slt (Scalar.addi (start (F := Ideal) lo _) (BitVec.ofNat 32 k.val)) (hi _))) ?_
  have hf := from_eq (the lo) h
  rw [IntOp.andi_eq_one, IntOp.cmpi_sge, IntOp.cmpi_slt, the_eq (start (F := Ideal) lo), the_eq lo, the_eq hi,
    toInt_of (addi (start_int lo ix0) (ofNat (e := k.val) k.val (by omega)) (e := from' (the lo) + k.val) (by omega))]
  unfold rowOk
  push_cast
  omega

/-- The scaled gram matrix's element, from the window's elements. -/
theorem gram_apply (w : Vec Ideal S585x4096 .f32) (s : Vec Ideal S_ .f32) (r q : Fin 4096) :
    gram w s (ix2 r q) = (∑ k : Fin 585, w (ix2 k r) * w (ix2 k q)) * (the s * the s) := by
  show FloatOps.dotGeneral (F := Ideal) (φ₁ := .f32) (φ₂ := .f32) dot_S585x4096_S585x4096_S4096x4096_0_0_1_1_n_n none _ w w (ix2 r q) * (s _ * s _) = _
  rw [the_eq s, Ideal.dotGeneral_apply, DotDims.sum_contr₁ _ (a := 0) rfl (K := 585) rfl]
  refine congrArg (· * _) (Finset.sum_congr rfl fun k _ => ?_)
  refine congrArg₂ (· * ·) (congrArg w (funext fun a => Fin.ext ?_)) (congrArg w (funext fun a => Fin.ext ?_))
  · fin_cases a <;> rfl
  · fin_cases a <;> rfl

/-- The half that starts `d` past the diagonal, element by element. -/
theorem upper_apply (d : BitVec 32) (n : Int) (hd : d.toInt = n) (hn : -1 ≤ n ∧ n ≤ 0) (g : Vec Ideal S4096x4096 .f32) (r q : Fin 4096) :
    upper d g (ix2 r q) = if (q.val : Int) ≤ r.val + n then 0 else g (ix2 r q) := by
  have hr := r.isLt
  have hq := q.isLt
  show Scalar.select (IntOp.cmpi .sge (Scalar.addi (BitVec.ofNat 32 r.val) d) (BitVec.ofNat 32 q.val)) (Ideal.ofBits .f32 0x00000000#32) (g (ix2 r q)) = _
  have hc : IntOp.cmpi .sge (Scalar.addi (BitVec.ofNat 32 r.val) d) (BitVec.ofNat 32 q.val) = 1#1 ↔ (q.val : Int) ≤ r.val + n := by
    rw [IntOp.cmpi_sge, toInt_ofNat_of_lt (by omega),
      toInt_of (Affine.addi (Affine.ofNat (e := r.val) r.val (by omega)) (Affine.word d) (e := r.val + n) (by omega))]
  rw [Ideal.ofBits_zero_f32]
  unfold Scalar.select
  by_cases h : (q.val : Int) ≤ r.val + n
  · rw [if_pos h]; exact if_pos (hc.mpr h)
  · rw [if_neg h]; exact if_neg (fun h' => h (hc.mp h'))

/-- The two halves of a symmetric matrix make it again. -/
theorem halves_apply (g : Vec Ideal S4096x4096 .f32) (r q : Fin 4096) (hg : g (ix2 q r) = g (ix2 r q)) :
    (upper 4294967295#32 g (ix2 r q) + upper 0#32 g (ix2 q r) : EReal) = g (ix2 r q) := by
  rw [upper_apply _ (-1) (by decide) (by omega), upper_apply _ 0 (by decide) (by omega), hg]
  by_cases h : r.val ≤ q.val
  · rw [if_neg (by omega), if_pos (by omega), add_zero]
  · rw [if_pos (by omega), if_neg (by omega), zero_add]

/-- The new matrix's element, from the old one's and the two halves'. -/
theorem update_apply (h a b : Vec Ideal S4096x4096 .f32) (c lo hi : Vec Ideal S_ .i32) (r q : Fin 4096) :
    update h a b c lo hi (ix2 r q)
      = h (ix2 r q) * Ideal.div (FloatOps.sitofp (F := Ideal) .f32 (the c)) (FloatOps.sitofp (F := Ideal) .f32 (countOf (the lo) (the hi) (the c)))
        + Ideal.div (Ideal.ofBits .f32 0x40000000#32) (FloatOps.sitofp (F := Ideal) .f32 (countOf (the lo) (the hi) (the c)))
          * (a (ix2 r q) + b (ix2 q r)) := by
  have ht : transpose S4096x4096 [1, 0] b transposes_S4096x4096_S4096x4096_1_0 (ix2 r q) = b (ix2 q r) :=
    transpose_apply _ b _ _ _ fun a => by fin_cases a <;> rfl
  show h (ix2 r q) * broadcastInDim S4096x4096 ![] bcast_S_S4096x4096 (Host.divf (sitofp .f32 c) (sitofp .f32 (count (F := Ideal) c lo hi)) : FVec Ideal S_ .f32) (ix2 r q)
    + broadcastInDim S4096x4096 ![] bcast_S_S4096x4096 (Host.divf (constant S_ .f32 0x40000000#32) (sitofp .f32 (count (F := Ideal) c lo hi)) : FVec Ideal S_ .f32) (ix2 r q)
      * (a (ix2 r q) + transpose S4096x4096 [1, 0] b transposes_S4096x4096_S4096x4096_1_0 (ix2 r q)) = _
  rw [ht]
  unfold broadcastInDim
  simp only [the_eq]
  rfl

/-- The plane's element. -/
theorem plane_apply (h : Vec Ideal S7x4096x4096 .f32) (c lo hi : Vec Ideal S7 .i32) (s : Vec Ideal S7 .f32) (x : Vec Ideal S2048x4096 .f32)
    {e : ℕ} (he : e < 7) (hlo : 0 ≤ (lo (ix1 ⟨e, he⟩)).toInt) (r q : Fin 4096) :
    plane h c lo hi s x (iotaInDim S585 32 0) (word (F := Ideal) e) (ix2 r q)
      = value (h (ix3 ⟨e, he⟩ r q)) (lo (ix1 ⟨e, he⟩)) (hi (ix1 ⟨e, he⟩)) (c (ix1 ⟨e, he⟩)) (s (ix1 ⟨e, he⟩))
          (gramAt x (lo (ix1 ⟨e, he⟩)) (hi (ix1 ⟨e, he⟩)) r q) := by
  have hL : the (pickI (F := Ideal) lo (word (F := Ideal) e)) = lo (ix1 ⟨e, he⟩) := pickI_apply lo he _
  have hH : the (pickI (F := Ideal) hi (word (F := Ideal) e)) = hi (ix1 ⟨e, he⟩) := pickI_apply hi he _
  have hC : the (pickI (F := Ideal) c (word (F := Ideal) e)) = c (ix1 ⟨e, he⟩) := pickI_apply c he _
  have hS : the (pickF s (word (F := Ideal) e)) = s (ix1 ⟨e, he⟩) := pickF_apply s he _
  have hg : ∀ r q : Fin 4096, gram (masked (valid (F := Ideal) (pickI (F := Ideal) lo (word (F := Ideal) e)) (pickI (F := Ideal) hi (word (F := Ideal) e)) (iotaInDim S585 32 0))
      (win x (pickI (F := Ideal) lo (word (F := Ideal) e))) (constant (F := Ideal) S_ .f32 0x00000000#32)) (pickF s (word (F := Ideal) e)) (ix2 r q)
      = gramAt x (lo (ix1 ⟨e, he⟩)) (hi (ix1 ⟨e, he⟩)) r q * (s (ix1 ⟨e, he⟩) * s (ix1 ⟨e, he⟩)) := by
    intro r q
    rw [gram_apply, hS]
    refine congrArg (· * _) ?_
    simp only [masked_apply _ _ _ (hL.symm ▸ hlo), hL, hH]
    have hf := from_eq _ hlo
    refine gramAt_window _ _ _ r q 585 _ (by unfold from'; omega) fun a ha _ => ?_
    obtain ⟨h1, h2, h3⟩ := ha
    omega
  unfold plane
  rw [update_apply, halves_apply _ _ _ (by rw [hg, hg, gramAt_comm]), hg, hL, hH, hC, pick3_apply h he]
  rfl

/-! ## The results -/

variable (m : (ℓ : Loc nD τ sig) → Buf (Elt Ideal) ℓ) (ρ : Dev nD → PrngReg)

/-- The arguments as arrays: activations, scales, offsets, old matrices, old counts. -/
abbrev argX (c : Dev nD) : Vec Ideal S2048x4096 .fp8e4m3 := m ((c.tc : Thread nD τ).loc main_arg0)
abbrev argS (c : Dev nD) : Vec Ideal S7 .f32 := m ((c.tc : Thread nD τ).loc main_arg1)
abbrev argO (c : Dev nD) : Vec Ideal S8 .i32 := m ((c.tc : Thread nD τ).loc main_arg2)
abbrev argH (c : Dev nD) : Vec Ideal S7x4096x4096 .f32 := m ((c.tc : Thread nD τ).loc main_arg3)
abbrev argC (c : Dev nD) : Vec Ideal S7 .i32 := m ((c.tc : Thread nD τ).loc main_arg4)

theorem lo_eq (x : Vec Ideal S8 .i32) (e : Fin 7) : extractStridedSlice S7 ![0] x slices_S8_S7_0 (ix1 e) = x (ix1 ⟨e.val, by omega⟩) := by
  unfold extractStridedSlice
  refine congrArg x (funext fun a => Fin.ext ?_)
  fin_cases a
  exact Nat.zero_add _

theorem hi_eq (x : Vec Ideal S8 .i32) (e : Fin 7) : extractStridedSlice S7 ![1] x slices_S8_S7_1 (ix1 e) = x (ix1 ⟨e.val + 1, by omega⟩) := by
  unfold extractStridedSlice
  refine congrArg x (funext fun a => Fin.ext ?_)
  fin_cases a
  exact Nat.add_comm _ _

/-- The first result's element. -/
theorem result0 (c : Dev nD) (hlo : ∀ e : Fin 7, 0 ≤ (argO m c (ix1 ⟨e.val, by omega⟩)).toInt) (e : Fin 7) (r q : Fin 4096) :
    (WN m ρ c (Proc.devRef .tc main_v6_8) : Vec Ideal S7x4096x4096 .f32) (ix3 e r q)
      = value (argH m c (ix3 e r q)) (argO m c (ix1 ⟨e.val, by omega⟩)) (argO m c (ix1 ⟨e.val + 1, by omega⟩)) (argC m c (ix1 e)) (argS m c (ix1 e))
          (gramAt (argX m c) (argO m c (ix1 ⟨e.val, by omega⟩)) (argO m c (ix1 ⟨e.val + 1, by omega⟩)) r q) := by
  refine (end_new m ρ c (ix3 e r q)).trans ?_
  unfold stackAt
  rw [went0, went1, went2, went3, went4, went5, went6]
  have h := plane_apply (argH m c) (argC m c) (extractStridedSlice S7 ![0] (argO m c) slices_S8_S7_0) (extractStridedSlice S7 ![1] (argO m c) slices_S8_S7_1)
    (argS m c) (extf (F := Ideal) (s := S2048x4096) (φ := .fp8e4m3) .f32 (argX m c) bitsLt_fp8e4m3_f32) e.isLt (by rw [lo_eq]; exact hlo e) r q
  rw [lo_eq, hi_eq] at h
  exact h

/-- The second result's element. -/
theorem result1 (c : Dev nD) (e : Fin 7) :
    (WN m ρ c (Proc.devRef .tc main_v6_9) : Vec Ideal S7 .i32) (ix1 e)
      = countOf (argO m c (ix1 ⟨e.val, by omega⟩)) (argO m c (ix1 ⟨e.val + 1, by omega⟩)) (argC m c (ix1 e)) := by
  refine (end_count m ρ c (ix1 e)).trans ?_
  unfold countAt
  rw [went1, went2, went3]
  have hL := pickI_apply (F := Ideal) (extractStridedSlice S7 ![0] (argO m c) slices_S8_S7_0) e.isLt (Shape.Idx.first h_S_)
  have hH := pickI_apply (F := Ideal) (extractStridedSlice S7 ![1] (argO m c) slices_S8_S7_1) e.isLt (Shape.Idx.first h_S_)
  have hC := pickI_apply (F := Ideal) (argC m c) e.isLt (Shape.Idx.first h_S_)
  rw [lo_eq] at hL
  rw [hi_eq] at hH
  show Scalar.addi (pickI (F := Ideal) _ _ _) (Scalar.subi (pickI (F := Ideal) _ _ _) (pickI (F := Ideal) _ _ _)) = _
  unfold countOf
  exact congrArg₂ Scalar.addi hC (congrArg₂ Scalar.subi hH hL)

end Cert.ReferenceIdeal.Hand

end
-- ==== Proof.lean ====
/-
  The proof of `Cert.Claim` (proofs.«01_k».proof.Defs).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_starts_inside
public import proofs.«01_k».proof.Proof.Pre
public import proofs.«01_k».proof.Proof.Run
public import proofs.«01_k».proof.Proof.RunIdeal
public import proofs.«01_k».proof.Proof.ValueIdeal
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel's loads stay inside the array under the precondition. -/
theorem inside_Kernel [Cert.Pre_starts_inside.Facts] (m : (ℓ : Loc Cert.Kernel.nD Cert.Kernel.τ Cert.Kernel.sig) → Buf (Elt Bits) ℓ) (h : Cert.Pre_Kernel m) :
    Cert.Kernel.Hand.Inside m :=
  Cert.Kernel.Hand.inside_of m fun c j hj => Cert.Pre_starts_inside.Hand.nonneg _ _ _ _ _ (h c) j hj

/-- And so do the idealized kernel's. -/
theorem inside_KernelIdeal [Cert.Pre_starts_inside.Facts] (m : (ℓ : Loc Cert.KernelIdeal.nD Cert.KernelIdeal.τ Cert.KernelIdeal.sig) → Buf (Elt Ideal) ℓ) (h : Cert.Pre_KernelIdeal m) :
    Cert.KernelIdeal.Hand.Inside m :=
  Cert.KernelIdeal.Hand.inside_of m fun c j hj => Cert.Pre_starts_inside.Hand.nonneg _ _ _ _ _ (h c) j hj

/-- The reference's arguments' offsets are the kernel's, so no expert's start is negative in them either; then both programs' results
    are the same formulas of the same arguments. -/
theorem algebraic [Cert.Pre_starts_inside.Facts] : Cert.algebraic_KernelIdeal_ReferenceIdeal := by
  intro m g m' g' hpre hargs
  have hs : Cert.KernelIdeal.Hand.Starts m := fun c j hj => Cert.Pre_starts_inside.Hand.nonneg _ _ _ _ _ (hpre c) j hj
  refine ⟨Cert.KernelIdeal.Hand.res0 m, Cert.KernelIdeal.Hand.res1 m, Cert.KernelIdeal.Hand.run m g hs,
    (θ_run Cert.ReferenceIdeal.defs _ _).mono (fun r hr c => ⟨(hr c).1.trans ?_, (hr c).2.1.trans ?_, (hr c).2.2⟩) (Cert.ReferenceIdeal.Hand.run m' g')⟩
  · obtain ⟨h0, h1, h2, h3, h4⟩ := hargs c
    have hX : Cert.ReferenceIdeal.Hand.argX m' c = Cert.KernelIdeal.Hand.argX m c := h0
    have hS : Cert.ReferenceIdeal.Hand.argS m' c = Cert.KernelIdeal.Hand.argS m c := h1
    have hO : Cert.ReferenceIdeal.Hand.argO m' c = Cert.KernelIdeal.Hand.argO m c := h2
    have hH : Cert.ReferenceIdeal.Hand.argH m' c = Cert.KernelIdeal.Hand.argH m c := h3
    have hC : Cert.ReferenceIdeal.Hand.argC m' c = Cert.KernelIdeal.Hand.argC m c := h4
    funext y
    obtain ⟨e, r, q, rfl⟩ : ∃ (e : Fin 7) (r q : Fin 4096), y = ValueIdx.ix3 e r q :=
      ⟨y 0, y 1, y 2, funext fun a => by fin_cases a <;> rfl⟩
    refine (Cert.ReferenceIdeal.Hand.result0 m' g' c (fun e => ?_) e r q).trans ?_
    · rw [hO]; exact hs c _ e.isLt
    · rw [hX, hS, hO, hH, hC]
      exact (Cert.KernelIdeal.Hand.res0_apply m c e r q).symm
  · obtain ⟨h0, h1, h2, h3, h4⟩ := hargs c
    have hO : Cert.ReferenceIdeal.Hand.argO m' c = Cert.KernelIdeal.Hand.argO m c := h2
    have hC : Cert.ReferenceIdeal.Hand.argC m' c = Cert.KernelIdeal.Hand.argC m c := h4
    funext y
    obtain ⟨e, rfl⟩ : ∃ e : Fin 7, y = ValueIdx.ix1 e := ⟨y 0, funext fun a => by fin_cases a; rfl⟩
    refine (Cert.ReferenceIdeal.Hand.result1 m' g' c e).trans ?_
    rw [hO, hC]
    exact (Cert.KernelIdeal.Hand.res1_apply m c e).symm

theorem claim : Cert.Claim :=
  ⟨Cert.Kernel.Gen.facts, Cert.KernelIdeal.Gen.facts, Cert.ReferenceIdeal.Gen.facts, Cert.Pre_starts_inside.Gen.facts,
    fun m g h => Cert.Kernel.Hand.frame m g (inside_Kernel m h),
    fun m g h => Cert.KernelIdeal.Hand.frame m g (inside_KernelIdeal m h),
    fun m g _ => Cert.ReferenceIdeal.Gen.frame m g,
    fun m g _ => Cert.ReferenceIdeal.Gen.frame m g,
    trivial, algebraic⟩

end Cert.Proof

end
